-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S16384x1024 : Shape := ⟨2, ![16384, 1024]⟩
abbrev S16384x32x32 : Shape := ⟨3, ![16384, 32, 32]⟩
abbrev S256x1024 : Shape := ⟨2, ![256, 1024]⟩
abbrev S1024x32 : Shape := ⟨2, ![1024, 32]⟩
abbrev S32x1024 : Shape := ⟨2, ![32, 1024]⟩
abbrev S1024x1024 : Shape := ⟨2, ![1024, 1024]⟩
abbrev S256x32 : Shape := ⟨2, ![256, 32]⟩
abbrev S256x1023 : Shape := ⟨2, ![256, 1023]⟩
abbrev S256x1 : Shape := ⟨2, ![256, 1]⟩
abbrev S256x1022 : Shape := ⟨2, ![256, 1022]⟩
abbrev S256x2 : Shape := ⟨2, ![256, 2]⟩
abbrev S256x1020 : Shape := ⟨2, ![256, 1020]⟩
abbrev S256x4 : Shape := ⟨2, ![256, 4]⟩
abbrev S256x1016 : Shape := ⟨2, ![256, 1016]⟩
abbrev S256x8 : Shape := ⟨2, ![256, 8]⟩
abbrev S256x1008 : Shape := ⟨2, ![256, 1008]⟩
abbrev S256x16 : Shape := ⟨2, ![256, 16]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x32x32, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x32, .bf16⟩
  | .local _ .vmem, ⟨5, _⟩ => ⟨S32x1024, .bf16⟩
  | .local _ .vmem, ⟨6, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384x1024 : Shape := ⟨2, ![16384, 1024]⟩
abbrev S16384x32x32 : Shape := ⟨3, ![16384, 32, 32]⟩
abbrev S_ : Shape := ⟨0, ![]⟩
abbrev S16384x32 : Shape := ⟨2, ![16384, 32]⟩
abbrev S16384x32x1 : Shape := ⟨3, ![16384, 32, 1]⟩
abbrev S1 : Shape := ⟨1, ![1]⟩
abbrev S2 : Shape := ⟨1, ![2]⟩
abbrev S1x1x1 : Shape := ⟨3, ![1, 1, 1]⟩
abbrev S1x1x32 : Shape := ⟨3, ![1, 1, 32]⟩

abbrev nBuf : Space → Nat
  | .hbm => 335
  | .vmem => 0
  | .smem => 0
  | _ => 0

abbrev hbmTy0_0 (i : Nat) : BufTy := match i % 128 with
  | 0 => ⟨S16384x1024, .f32⟩
  | 1 => ⟨S16384x32x32, .f32⟩
  | 2 => ⟨S_, .f32⟩
  | 3 => ⟨S16384x32, .f32⟩
  | 4 => ⟨S_, .f32⟩
  | 5 => ⟨S16384x32, .f32⟩
  | 6 => ⟨S16384x32, .f32⟩
  | 7 => ⟨S16384x32x1, .f32⟩
  | 8 => ⟨S16384x32x32, .f32⟩
  | 9 => ⟨S16384x32x32, .f32⟩
  | 10 => ⟨S16384x32x32, .f32⟩
  | 11 => ⟨S_, .f32⟩
  | 12 => ⟨S16384x32, .f32⟩
  | 13 => ⟨S16384x32x1, .f32⟩
  | 14 => ⟨S16384x32x32, .f32⟩
  | 15 => ⟨S16384x32x32, .f32⟩
  | 16 => ⟨S_, .f32⟩
  | 17 => ⟨S16384x32x32, .f32⟩
  | 18 => ⟨S_, .f32⟩
  | 19 => ⟨S16384x32x32, .f32⟩
  | 20 => ⟨S16384x32x32, .f32⟩
  | 21 => ⟨S_, .f32⟩
  | 22 => ⟨S16384x32x32, .f32⟩
  | 23 => ⟨S16384x32x32, .f32⟩
  | 24 => ⟨S_, .f32⟩
  | 25 => ⟨S16384x32x32, .f32⟩
  | 26 => ⟨S16384x32x32, .f32⟩
  | 27 => ⟨S16384x32x32, .f32⟩
  | 28 => ⟨S_, .i32⟩
  | 29 => ⟨S_, .i32⟩
  | 30 => ⟨S_, .i32⟩
  | 31 => ⟨S_, .i32⟩
  | 32 => ⟨S1, .i32⟩
  | 33 => ⟨S_, .i32⟩
  | 34 => ⟨S_, .i32⟩
  | 35 => ⟨S_, .i32⟩
  | 36 => ⟨S1, .i32⟩
  | 37 => ⟨S2, .i32⟩
  | 38 => ⟨S_, .f32⟩
  | 39 => ⟨S_, .f32⟩
  | 40 => ⟨S_, .f32⟩
  | 41 => ⟨S_, .f32⟩
  | 42 => ⟨S1x1x1, .f32⟩
  | 43 => ⟨S1x1x1, .f32⟩
  | 44 => ⟨S1, .i32⟩
  | 45 => ⟨S_, .i32⟩
  | 46 => ⟨S1, .i32⟩
  | 47 => ⟨S_, .i32⟩
  | 48 => ⟨S16384x32x32, .i64⟩
  | 49 => ⟨S16384x32x32, .i64⟩
  | 50 => ⟨S16384x32x32, .i64⟩
  | 51 => ⟨S_, .i64⟩
  | 52 => ⟨S16384x32x32, .i64⟩
  | 53 => ⟨S16384x32x32, .i64⟩
  | 54 => ⟨S_, .i64⟩
  | 55 => ⟨S16384x32x32, .i64⟩
  | 56 => ⟨S16384x32x32, .i64⟩
  | 57 => ⟨S_, .i64⟩
  | 58 => ⟨S16384x32x32, .i64⟩
  | 59 => ⟨S16384x32x32, .i64⟩
  | 60 => ⟨S16384x32x32, .i64⟩
  | 61 => ⟨S16384x32x32, .i64⟩
  | 62 => ⟨S_, .i64⟩
  | 63 => ⟨S16384x32x32, .i64⟩
  | 64 => ⟨S16384x32x32, .i64⟩
  | 65 => ⟨S16384x32x32, .i32⟩
  | 66 => ⟨S16384x32x32, .i32⟩
  | 67 => ⟨S_, .i32⟩
  | 68 => ⟨S_, .i32⟩
  | 69 => ⟨S_, .i32⟩
  | 70 => ⟨S16384x32x32, .i32⟩
  | 71 => ⟨S16384x32x32, .i32⟩
  | 72 => ⟨S16384x32x32, .i32⟩
  | 73 => ⟨S16384x32x32, .i32⟩
  | 74 => ⟨S16384x32x32, .i32⟩
  | 75 => ⟨S_, .i32⟩
  | 76 => ⟨S16384x32x32, .i32⟩
  | 77 => ⟨S16384x32x32, .i32⟩
  | 78 => ⟨S_, .i32⟩
  | 79 => ⟨S16384x32x32, .i32⟩
  | 80 => ⟨S16384x32x32, .i32⟩
  | 81 => ⟨S16384x32x32, .i32⟩
  | 82 => ⟨S16384x32x32, .i32⟩
  | 83 => ⟨S16384x32x32, .i32⟩
  | 84 => ⟨S_, .i32⟩
  | 85 => ⟨S16384x32x32, .i32⟩
  | 86 => ⟨S16384x32x32, .i32⟩
  | 87 => ⟨S_, .i32⟩
  | 88 => ⟨S16384x32x32, .i32⟩
  | 89 => ⟨S16384x32x32, .i32⟩
  | 90 => ⟨S16384x32x32, .i32⟩
  | 91 => ⟨S16384x32x32, .i32⟩
  | 92 => ⟨S16384x32x32, .i32⟩
  | 93 => ⟨S_, .i32⟩
  | 94 => ⟨S16384x32x32, .i32⟩
  | 95 => ⟨S16384x32x32, .i32⟩
  | 96 => ⟨S_, .i32⟩
  | 97 => ⟨S16384x32x32, .i32⟩
  | 98 => ⟨S16384x32x32, .i32⟩
  | 99 => ⟨S16384x32x32, .i32⟩
  | 100 => ⟨S16384x32x32, .i32⟩
  | 101 => ⟨S16384x32x32, .i32⟩
  | 102 => ⟨S_, .i32⟩
  | 103 => ⟨S16384x32x32, .i32⟩
  | 104 => ⟨S16384x32x32, .i32⟩
  | 105 => ⟨S_, .i32⟩
  | 106 => ⟨S16384x32x32, .i32⟩
  | 107 => ⟨S16384x32x32, .i32⟩
  | 108 => ⟨S16384x32x32, .i32⟩
  | 109 => ⟨S16384x32x32, .i32⟩
  | 110 => ⟨S16384x32x32, .i32⟩
  | 111 => ⟨S16384x32x32, .i32⟩
  | 112 => ⟨S16384x32x32, .i32⟩
  | 113 => ⟨S16384x32x32, .i32⟩
  | 114 => ⟨S_, .i32⟩
  | 115 => ⟨S16384x32x32, .i32⟩
  | 116 => ⟨S16384x32x32, .i32⟩
  | 117 => ⟨S16384x32x32, .i32⟩
  | 118 => ⟨S_, .i32⟩
  | 119 => ⟨S16384x32x32, .i32⟩
  | 120 => ⟨S16384x32x32, .i32⟩
  | 121 => ⟨S_, .i32⟩
  | 122 => ⟨S16384x32x32, .i32⟩
  | 123 => ⟨S16384x32x32, .i32⟩
  | 124 => ⟨S16384x32x32, .i32⟩
  | 125 => ⟨S16384x32x32, .i32⟩
  | 126 => ⟨S16384x32x32, .i32⟩
  | 127 => ⟨S_, .i32⟩
  | _ => ⟨S16384x1024, .f32⟩

abbrev hbmTy0_1 (i : Nat) : BufTy := match i % 128 with
  | 0 => ⟨S16384x32x32, .i32⟩
  | 1 => ⟨S16384x32x32, .i32⟩
  | 2 => ⟨S_, .i32⟩
  | 3 => ⟨S16384x32x32, .i32⟩
  | 4 => ⟨S16384x32x32, .i32⟩
  | 5 => ⟨S16384x32x32, .i32⟩
  | 6 => ⟨S16384x32x32, .i32⟩
  | 7 => ⟨S16384x32x32, .i32⟩
  | 8 => ⟨S_, .i32⟩
  | 9 => ⟨S16384x32x32, .i32⟩
  | 10 => ⟨S16384x32x32, .i32⟩
  | 11 => ⟨S_, .i32⟩
  | 12 => ⟨S16384x32x32, .i32⟩
  | 13 => ⟨S16384x32x32, .i32⟩
  | 14 => ⟨S16384x32x32, .i32⟩
  | 15 => ⟨S16384x32x32, .i32⟩
  | 16 => ⟨S16384x32x32, .i32⟩
  | 17 => ⟨S_, .i32⟩
  | 18 => ⟨S16384x32x32, .i32⟩
  | 19 => ⟨S16384x32x32, .i32⟩
  | 20 => ⟨S_, .i32⟩
  | 21 => ⟨S16384x32x32, .i32⟩
  | 22 => ⟨S16384x32x32, .i32⟩
  | 23 => ⟨S16384x32x32, .i32⟩
  | 24 => ⟨S16384x32x32, .i32⟩
  | 25 => ⟨S16384x32x32, .i32⟩
  | 26 => ⟨S16384x32x32, .i32⟩
  | 27 => ⟨S16384x32x32, .i32⟩
  | 28 => ⟨S16384x32x32, .i32⟩
  | 29 => ⟨S_, .i32⟩
  | 30 => ⟨S16384x32x32, .i32⟩
  | 31 => ⟨S16384x32x32, .i32⟩
  | 32 => ⟨S16384x32x32, .i32⟩
  | 33 => ⟨S_, .i32⟩
  | 34 => ⟨S16384x32x32, .i32⟩
  | 35 => ⟨S16384x32x32, .i32⟩
  | 36 => ⟨S_, .i32⟩
  | 37 => ⟨S16384x32x32, .i32⟩
  | 38 => ⟨S16384x32x32, .i32⟩
  | 39 => ⟨S16384x32x32, .i32⟩
  | 40 => ⟨S16384x32x32, .i32⟩
  | 41 => ⟨S16384x32x32, .i32⟩
  | 42 => ⟨S_, .i32⟩
  | 43 => ⟨S16384x32x32, .i32⟩
  | 44 => ⟨S16384x32x32, .i32⟩
  | 45 => ⟨S_, .i32⟩
  | 46 => ⟨S16384x32x32, .i32⟩
  | 47 => ⟨S16384x32x32, .i32⟩
  | 48 => ⟨S16384x32x32, .i32⟩
  | 49 => ⟨S16384x32x32, .i32⟩
  | 50 => ⟨S16384x32x32, .i32⟩
  | 51 => ⟨S_, .i32⟩
  | 52 => ⟨S16384x32x32, .i32⟩
  | 53 => ⟨S16384x32x32, .i32⟩
  | 54 => ⟨S_, .i32⟩
  | 55 => ⟨S16384x32x32, .i32⟩
  | 56 => ⟨S16384x32x32, .i32⟩
  | 57 => ⟨S16384x32x32, .i32⟩
  | 58 => ⟨S16384x32x32, .i32⟩
  | 59 => ⟨S16384x32x32, .i32⟩
  | 60 => ⟨S_, .i32⟩
  | 61 => ⟨S16384x32x32, .i32⟩
  | 62 => ⟨S16384x32x32, .i32⟩
  | 63 => ⟨S_, .i32⟩
  | 64 => ⟨S16384x32x32, .i32⟩
  | 65 => ⟨S16384x32x32, .i32⟩
  | 66 => ⟨S16384x32x32, .i32⟩
  | 67 => ⟨S16384x32x32, .i32⟩
  | 68 => ⟨S16384x32x32, .i32⟩
  | 69 => ⟨S16384x32x32, .i32⟩
  | 70 => ⟨S16384x32x32, .i32⟩
  | 71 => ⟨S16384x32x32, .i32⟩
  | 72 => ⟨S_, .i32⟩
  | 73 => ⟨S16384x32x32, .i32⟩
  | 74 => ⟨S16384x32x32, .i32⟩
  | 75 => ⟨S16384x32x32, .i32⟩
  | 76 => ⟨S_, .i32⟩
  | 77 => ⟨S16384x32x32, .i32⟩
  | 78 => ⟨S16384x32x32, .i32⟩
  | 79 => ⟨S_, .i32⟩
  | 80 => ⟨S16384x32x32, .i32⟩
  | 81 => ⟨S16384x32x32, .i32⟩
  | 82 => ⟨S16384x32x32, .i32⟩
  | 83 => ⟨S16384x32x32, .i32⟩
  | 84 => ⟨S16384x32x32, .i32⟩
  | 85 => ⟨S_, .i32⟩
  | 86 => ⟨S16384x32x32, .i32⟩
  | 87 => ⟨S16384x32x32, .i32⟩
  | 88 => ⟨S_, .i32⟩
  | 89 => ⟨S16384x32x32, .i32⟩
  | 90 => ⟨S16384x32x32, .i32⟩
  | 91 => ⟨S16384x32x32, .i32⟩
  | 92 => ⟨S16384x32x32, .i32⟩
  | 93 => ⟨S16384x32x32, .i32⟩
  | 94 => ⟨S_, .i32⟩
  | 95 => ⟨S16384x32x32, .i32⟩
  | 96 => ⟨S16384x32x32, .i32⟩
  | 97 => ⟨S_, .i32⟩
  | 98 => ⟨S16384x32x32, .i32⟩
  | 99 => ⟨S16384x32x32, .i32⟩
  | 100 => ⟨S16384x32x32, .i32⟩
  | 101 => ⟨S16384x32x32, .i32⟩
  | 102 => ⟨S16384x32x32, .i32⟩
  | 103 => ⟨S_, .i32⟩
  | 104 => ⟨S16384x32x32, .i32⟩
  | 105 => ⟨S16384x32x32, .i32⟩
  | 106 => ⟨S_, .i32⟩
  | 107 => ⟨S16384x32x32, .i32⟩
  | 108 => ⟨S16384x32x32, .i32⟩
  | 109 => ⟨S16384x32x32, .i32⟩
  | 110 => ⟨S16384x32x32, .i32⟩
  | 111 => ⟨S16384x32x32, .i32⟩
  | 112 => ⟨S16384x32x32, .i32⟩
  | 113 => ⟨S16384x32x32, .i32⟩
  | 114 => ⟨S16384x32x32, .i32⟩
  | 115 => ⟨S_, .i32⟩
  | 116 => ⟨S16384x32x32, .i32⟩
  | 117 => ⟨S16384x32x32, .i32⟩
  | 118 => ⟨S16384x32x32, .i32⟩
  | 119 => ⟨S_, .i32⟩
  | 120 => ⟨S16384x32x32, .i32⟩
  | 121 => ⟨S16384x32x32, .i32⟩
  | 122 => ⟨S_, .i32⟩
  | 123 => ⟨S16384x32x32, .i32⟩
  | 124 => ⟨S16384x32x32, .i32⟩
  | 125 => ⟨S16384x32x32, .i32⟩
  | 126 => ⟨S16384x32x32, .i32⟩
  | 127 => ⟨S16384x32x32, .i32⟩
  | _ => ⟨S16384x1024, .f32⟩

abbrev hbmTy0_2 (i : Nat) : BufTy := match i % 128 with
  | 0 => ⟨S_, .i32⟩
  | 1 => ⟨S16384x32x32, .i32⟩
  | 2 => ⟨S16384x32x32, .i32⟩
  | 3 => ⟨S_, .i32⟩
  | 4 => ⟨S16384x32x32, .i32⟩
  | 5 => ⟨S16384x32x32, .i32⟩
  | 6 => ⟨S16384x32x32, .i32⟩
  | 7 => ⟨S16384x32x32, .i32⟩
  | 8 => ⟨S16384x32x32, .i32⟩
  | 9 => ⟨S_, .i32⟩
  | 10 => ⟨S16384x32x32, .i32⟩
  | 11 => ⟨S16384x32x32, .i32⟩
  | 12 => ⟨S_, .i32⟩
  | 13 => ⟨S16384x32x32, .i32⟩
  | 14 => ⟨S16384x32x32, .i32⟩
  | 15 => ⟨S16384x32x32, .i32⟩
  | 16 => ⟨S16384x32x32, .i32⟩
  | 17 => ⟨S16384x32x32, .i32⟩
  | 18 => ⟨S_, .i32⟩
  | 19 => ⟨S16384x32x32, .i32⟩
  | 20 => ⟨S16384x32x32, .i32⟩
  | 21 => ⟨S_, .i32⟩
  | 22 => ⟨S16384x32x32, .i32⟩
  | 23 => ⟨S16384x32x32, .i32⟩
  | 24 => ⟨S16384x32x32, .i32⟩
  | 25 => ⟨S16384x32x32, .i32⟩
  | 26 => ⟨S16384x32x32, .i32⟩
  | 27 => ⟨S16384x32x32, .i32⟩
  | 28 => ⟨S16384x32x32, .i32⟩
  | 29 => ⟨S16384x32x32, .i32⟩
  | 30 => ⟨S_, .i32⟩
  | 31 => ⟨S16384x32x32, .i32⟩
  | 32 => ⟨S16384x32x32, .i32⟩
  | 33 => ⟨S16384x32x32, .i32⟩
  | 34 => ⟨S_, .i32⟩
  | 35 => ⟨S16384x32x32, .i32⟩
  | 36 => ⟨S16384x32x32, .i32⟩
  | 37 => ⟨S_, .i32⟩
  | 38 => ⟨S16384x32x32, .i32⟩
  | 39 => ⟨S16384x32x32, .i32⟩
  | 40 => ⟨S16384x32x32, .f32⟩
  | 41 => ⟨S_, .f32⟩
  | 42 => ⟨S16384x32x32, .f32⟩
  | 43 => ⟨S16384x32x32, .f32⟩
  | 44 => ⟨S1x1x1, .f32⟩
  | 45 => ⟨S16384x32x32, .f32⟩
  | 46 => ⟨S16384x32x32, .f32⟩
  | 47 => ⟨S16384x32x32, .f32⟩
  | 48 => ⟨S16384x32x32, .f32⟩
  | 49 => ⟨S16384x32x32, .f32⟩
  | 50 => ⟨S16384x32x32, .f32⟩
  | 51 => ⟨S_, .f32⟩
  | 52 => ⟨S16384x32x32, .f32⟩
  | 53 => ⟨S16384x32x32, .f32⟩
  | 54 => ⟨S_, .f32⟩
  | 55 => ⟨S16384x32x32, .f32⟩
  | 56 => ⟨S16384x32x32, .f32⟩
  | 57 => ⟨S_, .f32⟩
  | 58 => ⟨S16384x32x32, .f32⟩
  | 59 => ⟨S16384x32x32, .f32⟩
  | 60 => ⟨S16384x32x32, .f32⟩
  | 61 => ⟨S16384x32x32, .f32⟩
  | 62 => ⟨S16384x32x32, .f32⟩
  | 63 => ⟨S16384x32x32, .f32⟩
  | 64 => ⟨S16384x32x32, .f32⟩
  | 65 => ⟨S16384x32x32, .f32⟩
  | 66 => ⟨S16384x32x32, .i32⟩
  | 67 => ⟨S_, .f32⟩
  | 68 => ⟨S_, .i32⟩
  | 69 => ⟨S16384x32, .f32⟩
  | 70 => ⟨S16384x32, .i32⟩
  | 71 => ⟨S16384x32x1, .i32⟩
  | 72 => ⟨S1x1x32, .i32⟩
  | 73 => ⟨S16384x32x32, .i32⟩
  | 74 => ⟨S16384x32x32, .i32⟩
  | 75 => ⟨S16384x32x32, .i1⟩
  | 76 => ⟨S16384x32x32, .f32⟩
  | 77 => ⟨S16384x32x32, .f32⟩
  | 78 => ⟨S16384x32x32, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_c_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_cst_9 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_c : Ref sig .tc := ⟨.hbm, 51, rfl⟩
abbrev main_call0_v11 : Ref sig .tc := ⟨.hbm, 52, rfl⟩
abbrev main_call0_v12 : Ref sig .tc := ⟨.hbm, 53, rfl⟩
abbrev main_call0_c_0 : Ref sig .tc := ⟨.hbm, 54, rfl⟩
abbrev main_call0_v13 : Ref sig .tc := ⟨.hbm, 55, rfl⟩
abbrev main_call0_v14 : Ref sig .tc := ⟨.hbm, 56, rfl⟩
abbrev main_call0_c_1 : Ref sig .tc := ⟨.hbm, 57, rfl⟩
abbrev main_call0_v15 : Ref sig .tc := ⟨.hbm, 58, rfl⟩
abbrev main_call0_v16 : Ref sig .tc := ⟨.hbm, 59, rfl⟩
abbrev main_call0_v17 : Ref sig .tc := ⟨.hbm, 60, rfl⟩
abbrev main_call0_v18 : Ref sig .tc := ⟨.hbm, 61, rfl⟩
abbrev main_call0_c_2 : Ref sig .tc := ⟨.hbm, 62, rfl⟩
abbrev main_call0_v19 : Ref sig .tc := ⟨.hbm, 63, rfl⟩
abbrev main_call0_v20 : Ref sig .tc := ⟨.hbm, 64, rfl⟩
abbrev main_call0_v21 : Ref sig .tc := ⟨.hbm, 65, rfl⟩
abbrev main_call0_v22 : Ref sig .tc := ⟨.hbm, 66, rfl⟩
abbrev main_call0_call0_v0 : Ref sig .tc := ⟨.hbm, 67, rfl⟩
abbrev main_call0_call0_c : Ref sig .tc := ⟨.hbm, 68, rfl⟩
abbrev main_call0_call0_v1 : Ref sig .tc := ⟨.hbm, 69, rfl⟩
abbrev main_call0_call0_v2 : Ref sig .tc := ⟨.hbm, 70, rfl⟩
abbrev main_call0_call0_v3 : Ref sig .tc := ⟨.hbm, 71, rfl⟩
abbrev main_call0_call0_v4 : Ref sig .tc := ⟨.hbm, 72, rfl⟩
abbrev main_call0_call0_v5 : Ref sig .tc := ⟨.hbm, 73, rfl⟩
abbrev main_call0_call0_v6 : Ref sig .tc := ⟨.hbm, 74, rfl⟩
abbrev main_call0_call0_c_0 : Ref sig .tc := ⟨.hbm, 75, rfl⟩
abbrev main_call0_call0_v7 : Ref sig .tc := ⟨.hbm, 76, rfl⟩
abbrev main_call0_call0_v8 : Ref sig .tc := ⟨.hbm, 77, rfl⟩
abbrev main_call0_call0_c_1 : Ref sig .tc := ⟨.hbm, 78, rfl⟩
abbrev main_call0_call0_v9 : Ref sig .tc := ⟨.hbm, 79, rfl⟩
abbrev main_call0_call0_v10 : Ref sig .tc := ⟨.hbm, 80, rfl⟩
abbrev main_call0_call0_v11 : Ref sig .tc := ⟨.hbm, 81, rfl⟩
abbrev main_call0_call0_v12 : Ref sig .tc := ⟨.hbm, 82, rfl⟩
abbrev main_call0_call0_v13 : Ref sig .tc := ⟨.hbm, 83, rfl⟩
abbrev main_call0_call0_c_2 : Ref sig .tc := ⟨.hbm, 84, rfl⟩
abbrev main_call0_call0_v14 : Ref sig .tc := ⟨.hbm, 85, rfl⟩
abbrev main_call0_call0_v15 : Ref sig .tc := ⟨.hbm, 86, rfl⟩
abbrev main_call0_call0_c_3 : Ref sig .tc := ⟨.hbm, 87, rfl⟩
abbrev main_call0_call0_v16 : Ref sig .tc := ⟨.hbm, 88, rfl⟩
abbrev main_call0_call0_v17 : Ref sig .tc := ⟨.hbm, 89, rfl⟩
abbrev main_call0_call0_v18 : Ref sig .tc := ⟨.hbm, 90, rfl⟩
abbrev main_call0_call0_v19 : Ref sig .tc := ⟨.hbm, 91, rfl⟩
abbrev main_call0_call0_v20 : Ref sig .tc := ⟨.hbm, 92, rfl⟩
abbrev main_call0_call0_c_4 : Ref sig .tc := ⟨.hbm, 93, rfl⟩
abbrev main_call0_call0_v21 : Ref sig .tc := ⟨.hbm, 94, rfl⟩
abbrev main_call0_call0_v22 : Ref sig .tc := ⟨.hbm, 95, rfl⟩
abbrev main_call0_call0_c_5 : Ref sig .tc := ⟨.hbm, 96, rfl⟩
abbrev main_call0_call0_v23 : Ref sig .tc := ⟨.hbm, 97, rfl⟩
abbrev main_call0_call0_v24 : Ref sig .tc := ⟨.hbm, 98, rfl⟩
abbrev main_call0_call0_v25 : Ref sig .tc := ⟨.hbm, 99, rfl⟩
abbrev main_call0_call0_v26 : Ref sig .tc := ⟨.hbm, 100, rfl⟩
abbrev main_call0_call0_v27 : Ref sig .tc := ⟨.hbm, 101, rfl⟩
abbrev main_call0_call0_c_6 : Ref sig .tc := ⟨.hbm, 102, rfl⟩
abbrev main_call0_call0_v28 : Ref sig .tc := ⟨.hbm, 103, rfl⟩
abbrev main_call0_call0_v29 : Ref sig .tc := ⟨.hbm, 104, rfl⟩
abbrev main_call0_call0_c_7 : Ref sig .tc := ⟨.hbm, 105, rfl⟩
abbrev main_call0_call0_v30 : Ref sig .tc := ⟨.hbm, 106, rfl⟩
abbrev main_call0_call0_v31 : Ref sig .tc := ⟨.hbm, 107, rfl⟩
abbrev main_call0_call0_v32 : Ref sig .tc := ⟨.hbm, 108, rfl⟩
abbrev main_call0_call0_v33 : Ref sig .tc := ⟨.hbm, 109, rfl⟩
abbrev main_call0_call0_v34 : Ref sig .tc := ⟨.hbm, 110, rfl⟩
abbrev main_call0_call0_v35 : Ref sig .tc := ⟨.hbm, 111, rfl⟩
abbrev main_call0_call0_v36 : Ref sig .tc := ⟨.hbm, 112, rfl⟩
abbrev main_call0_call0_v37 : Ref sig .tc := ⟨.hbm, 113, rfl⟩
abbrev main_call0_call0_c_8 : Ref sig .tc := ⟨.hbm, 114, rfl⟩
abbrev main_call0_call0_v38 : Ref sig .tc := ⟨.hbm, 115, rfl⟩
abbrev main_call0_call0_v39 : Ref sig .tc := ⟨.hbm, 116, rfl⟩
abbrev main_call0_call0_v40 : Ref sig .tc := ⟨.hbm, 117, rfl⟩
abbrev main_call0_call0_c_9 : Ref sig .tc := ⟨.hbm, 118, rfl⟩
abbrev main_call0_call0_v41 : Ref sig .tc := ⟨.hbm, 119, rfl⟩
abbrev main_call0_call0_v42 : Ref sig .tc := ⟨.hbm, 120, rfl⟩
abbrev main_call0_call0_c_10 : Ref sig .tc := ⟨.hbm, 121, rfl⟩
abbrev main_call0_call0_v43 : Ref sig .tc := ⟨.hbm, 122, rfl⟩
abbrev main_call0_call0_v44 : Ref sig .tc := ⟨.hbm, 123, rfl⟩
abbrev main_call0_call0_v45 : Ref sig .tc := ⟨.hbm, 124, rfl⟩
abbrev main_call0_call0_v46 : Ref sig .tc := ⟨.hbm, 125, rfl⟩
abbrev main_call0_call0_v47 : Ref sig .tc := ⟨.hbm, 126, rfl⟩
abbrev main_call0_call0_c_11 : Ref sig .tc := ⟨.hbm, 127, rfl⟩
abbrev main_call0_call0_v48 : Ref sig .tc := ⟨.hbm, 128, rfl⟩
abbrev main_call0_call0_v49 : Ref sig .tc := ⟨.hbm, 129, rfl⟩
abbrev main_call0_call0_c_12 : Ref sig .tc := ⟨.hbm, 130, rfl⟩
abbrev main_call0_call0_v50 : Ref sig .tc := ⟨.hbm, 131, rfl⟩
abbrev main_call0_call0_v51 : Ref sig .tc := ⟨.hbm, 132, rfl⟩
abbrev main_call0_call0_v52 : Ref sig .tc := ⟨.hbm, 133, rfl⟩
abbrev main_call0_call0_v53 : Ref sig .tc := ⟨.hbm, 134, rfl⟩
abbrev main_call0_call0_v54 : Ref sig .tc := ⟨.hbm, 135, rfl⟩
abbrev main_call0_call0_c_13 : Ref sig .tc := ⟨.hbm, 136, rfl⟩
abbrev main_call0_call0_v55 : Ref sig .tc := ⟨.hbm, 137, rfl⟩
abbrev main_call0_call0_v56 : Ref sig .tc := ⟨.hbm, 138, rfl⟩
abbrev main_call0_call0_c_14 : Ref sig .tc := ⟨.hbm, 139, rfl⟩
abbrev main_call0_call0_v57 : Ref sig .tc := ⟨.hbm, 140, rfl⟩
abbrev main_call0_call0_v58 : Ref sig .tc := ⟨.hbm, 141, rfl⟩
abbrev main_call0_call0_v59 : Ref sig .tc := ⟨.hbm, 142, rfl⟩
abbrev main_call0_call0_v60 : Ref sig .tc := ⟨.hbm, 143, rfl⟩
abbrev main_call0_call0_v61 : Ref sig .tc := ⟨.hbm, 144, rfl⟩
abbrev main_call0_call0_c_15 : Ref sig .tc := ⟨.hbm, 145, rfl⟩
abbrev main_call0_call0_v62 : Ref sig .tc := ⟨.hbm, 146, rfl⟩
abbrev main_call0_call0_v63 : Ref sig .tc := ⟨.hbm, 147, rfl⟩
abbrev main_call0_call0_c_16 : Ref sig .tc := ⟨.hbm, 148, rfl⟩
abbrev main_call0_call0_v64 : Ref sig .tc := ⟨.hbm, 149, rfl⟩
abbrev main_call0_call0_v65 : Ref sig .tc := ⟨.hbm, 150, rfl⟩
abbrev main_call0_call0_v66 : Ref sig .tc := ⟨.hbm, 151, rfl⟩
abbrev main_call0_call0_v67 : Ref sig .tc := ⟨.hbm, 152, rfl⟩
abbrev main_call0_call0_v68 : Ref sig .tc := ⟨.hbm, 153, rfl⟩
abbrev main_call0_call0_v69 : Ref sig .tc := ⟨.hbm, 154, rfl⟩
abbrev main_call0_call0_v70 : Ref sig .tc := ⟨.hbm, 155, rfl⟩
abbrev main_call0_call0_v71 : Ref sig .tc := ⟨.hbm, 156, rfl⟩
abbrev main_call0_call0_c_17 : Ref sig .tc := ⟨.hbm, 157, rfl⟩
abbrev main_call0_call0_v72 : Ref sig .tc := ⟨.hbm, 158, rfl⟩
abbrev main_call0_call0_v73 : Ref sig .tc := ⟨.hbm, 159, rfl⟩
abbrev main_call0_call0_v74 : Ref sig .tc := ⟨.hbm, 160, rfl⟩
abbrev main_call0_call0_c_18 : Ref sig .tc := ⟨.hbm, 161, rfl⟩
abbrev main_call0_call0_v75 : Ref sig .tc := ⟨.hbm, 162, rfl⟩
abbrev main_call0_call0_v76 : Ref sig .tc := ⟨.hbm, 163, rfl⟩
abbrev main_call0_call0_c_19 : Ref sig .tc := ⟨.hbm, 164, rfl⟩
abbrev main_call0_call0_v77 : Ref sig .tc := ⟨.hbm, 165, rfl⟩
abbrev main_call0_call0_v78 : Ref sig .tc := ⟨.hbm, 166, rfl⟩
abbrev main_call0_call0_v79 : Ref sig .tc := ⟨.hbm, 167, rfl⟩
abbrev main_call0_call0_v80 : Ref sig .tc := ⟨.hbm, 168, rfl⟩
abbrev main_call0_call0_v81 : Ref sig .tc := ⟨.hbm, 169, rfl⟩
abbrev main_call0_call0_c_20 : Ref sig .tc := ⟨.hbm, 170, rfl⟩
abbrev main_call0_call0_v82 : Ref sig .tc := ⟨.hbm, 171, rfl⟩
abbrev main_call0_call0_v83 : Ref sig .tc := ⟨.hbm, 172, rfl⟩
abbrev main_call0_call0_c_21 : Ref sig .tc := ⟨.hbm, 173, rfl⟩
abbrev main_call0_call0_v84 : Ref sig .tc := ⟨.hbm, 174, rfl⟩
abbrev main_call0_call0_v85 : Ref sig .tc := ⟨.hbm, 175, rfl⟩
abbrev main_call0_call0_v86 : Ref sig .tc := ⟨.hbm, 176, rfl⟩
abbrev main_call0_call0_v87 : Ref sig .tc := ⟨.hbm, 177, rfl⟩
abbrev main_call0_call0_v88 : Ref sig .tc := ⟨.hbm, 178, rfl⟩
abbrev main_call0_call0_c_22 : Ref sig .tc := ⟨.hbm, 179, rfl⟩
abbrev main_call0_call0_v89 : Ref sig .tc := ⟨.hbm, 180, rfl⟩
abbrev main_call0_call0_v90 : Ref sig .tc := ⟨.hbm, 181, rfl⟩
abbrev main_call0_call0_c_23 : Ref sig .tc := ⟨.hbm, 182, rfl⟩
abbrev main_call0_call0_v91 : Ref sig .tc := ⟨.hbm, 183, rfl⟩
abbrev main_call0_call0_v92 : Ref sig .tc := ⟨.hbm, 184, rfl⟩
abbrev main_call0_call0_v93 : Ref sig .tc := ⟨.hbm, 185, rfl⟩
abbrev main_call0_call0_v94 : Ref sig .tc := ⟨.hbm, 186, rfl⟩
abbrev main_call0_call0_v95 : Ref sig .tc := ⟨.hbm, 187, rfl⟩
abbrev main_call0_call0_c_24 : Ref sig .tc := ⟨.hbm, 188, rfl⟩
abbrev main_call0_call0_v96 : Ref sig .tc := ⟨.hbm, 189, rfl⟩
abbrev main_call0_call0_v97 : Ref sig .tc := ⟨.hbm, 190, rfl⟩
abbrev main_call0_call0_c_25 : Ref sig .tc := ⟨.hbm, 191, rfl⟩
abbrev main_call0_call0_v98 : Ref sig .tc := ⟨.hbm, 192, rfl⟩
abbrev main_call0_call0_v99 : Ref sig .tc := ⟨.hbm, 193, rfl⟩
abbrev main_call0_call0_v100 : Ref sig .tc := ⟨.hbm, 194, rfl⟩
abbrev main_call0_call0_v101 : Ref sig .tc := ⟨.hbm, 195, rfl⟩
abbrev main_call0_call0_v102 : Ref sig .tc := ⟨.hbm, 196, rfl⟩
abbrev main_call0_call0_v103 : Ref sig .tc := ⟨.hbm, 197, rfl⟩
abbrev main_call0_call0_v104 : Ref sig .tc := ⟨.hbm, 198, rfl⟩
abbrev main_call0_call0_v105 : Ref sig .tc := ⟨.hbm, 199, rfl⟩
abbrev main_call0_call0_c_26 : Ref sig .tc := ⟨.hbm, 200, rfl⟩
abbrev main_call0_call0_v106 : Ref sig .tc := ⟨.hbm, 201, rfl⟩
abbrev main_call0_call0_v107 : Ref sig .tc := ⟨.hbm, 202, rfl⟩
abbrev main_call0_call0_v108 : Ref sig .tc := ⟨.hbm, 203, rfl⟩
abbrev main_call0_call0_c_27 : Ref sig .tc := ⟨.hbm, 204, rfl⟩
abbrev main_call0_call0_v109 : Ref sig .tc := ⟨.hbm, 205, rfl⟩
abbrev main_call0_call0_v110 : Ref sig .tc := ⟨.hbm, 206, rfl⟩
abbrev main_call0_call0_c_28 : Ref sig .tc := ⟨.hbm, 207, rfl⟩
abbrev main_call0_call0_v111 : Ref sig .tc := ⟨.hbm, 208, rfl⟩
abbrev main_call0_call0_v112 : Ref sig .tc := ⟨.hbm, 209, rfl⟩
abbrev main_call0_call0_v113 : Ref sig .tc := ⟨.hbm, 210, rfl⟩
abbrev main_call0_call0_v114 : Ref sig .tc := ⟨.hbm, 211, rfl⟩
abbrev main_call0_call0_v115 : Ref sig .tc := ⟨.hbm, 212, rfl⟩
abbrev main_call0_call0_c_29 : Ref sig .tc := ⟨.hbm, 213, rfl⟩
abbrev main_call0_call0_v116 : Ref sig .tc := ⟨.hbm, 214, rfl⟩
abbrev main_call0_call0_v117 : Ref sig .tc := ⟨.hbm, 215, rfl⟩
abbrev main_call0_call0_c_30 : Ref sig .tc := ⟨.hbm, 216, rfl⟩
abbrev main_call0_call0_v118 : Ref sig .tc := ⟨.hbm, 217, rfl⟩
abbrev main_call0_call0_v119 : Ref sig .tc := ⟨.hbm, 218, rfl⟩
abbrev main_call0_call0_v120 : Ref sig .tc := ⟨.hbm, 219, rfl⟩
abbrev main_call0_call0_v121 : Ref sig .tc := ⟨.hbm, 220, rfl⟩
abbrev main_call0_call0_v122 : Ref sig .tc := ⟨.hbm, 221, rfl⟩
abbrev main_call0_call0_c_31 : Ref sig .tc := ⟨.hbm, 222, rfl⟩
abbrev main_call0_call0_v123 : Ref sig .tc := ⟨.hbm, 223, rfl⟩
abbrev main_call0_call0_v124 : Ref sig .tc := ⟨.hbm, 224, rfl⟩
abbrev main_call0_call0_c_32 : Ref sig .tc := ⟨.hbm, 225, rfl⟩
abbrev main_call0_call0_v125 : Ref sig .tc := ⟨.hbm, 226, rfl⟩
abbrev main_call0_call0_v126 : Ref sig .tc := ⟨.hbm, 227, rfl⟩
abbrev main_call0_call0_v127 : Ref sig .tc := ⟨.hbm, 228, rfl⟩
abbrev main_call0_call0_v128 : Ref sig .tc := ⟨.hbm, 229, rfl⟩
abbrev main_call0_call0_v129 : Ref sig .tc := ⟨.hbm, 230, rfl⟩
abbrev main_call0_call0_c_33 : Ref sig .tc := ⟨.hbm, 231, rfl⟩
abbrev main_call0_call0_v130 : Ref sig .tc := ⟨.hbm, 232, rfl⟩
abbrev main_call0_call0_v131 : Ref sig .tc := ⟨.hbm, 233, rfl⟩
abbrev main_call0_call0_c_34 : Ref sig .tc := ⟨.hbm, 234, rfl⟩
abbrev main_call0_call0_v132 : Ref sig .tc := ⟨.hbm, 235, rfl⟩
abbrev main_call0_call0_v133 : Ref sig .tc := ⟨.hbm, 236, rfl⟩
abbrev main_call0_call0_v134 : Ref sig .tc := ⟨.hbm, 237, rfl⟩
abbrev main_call0_call0_v135 : Ref sig .tc := ⟨.hbm, 238, rfl⟩
abbrev main_call0_call0_v136 : Ref sig .tc := ⟨.hbm, 239, rfl⟩
abbrev main_call0_call0_v137 : Ref sig .tc := ⟨.hbm, 240, rfl⟩
abbrev main_call0_call0_v138 : Ref sig .tc := ⟨.hbm, 241, rfl⟩
abbrev main_call0_call0_v139 : Ref sig .tc := ⟨.hbm, 242, rfl⟩
abbrev main_call0_call0_c_35 : Ref sig .tc := ⟨.hbm, 243, rfl⟩
abbrev main_call0_call0_v140 : Ref sig .tc := ⟨.hbm, 244, rfl⟩
abbrev main_call0_call0_v141 : Ref sig .tc := ⟨.hbm, 245, rfl⟩
abbrev main_call0_call0_v142 : Ref sig .tc := ⟨.hbm, 246, rfl⟩
abbrev main_call0_call0_c_36 : Ref sig .tc := ⟨.hbm, 247, rfl⟩
abbrev main_call0_call0_v143 : Ref sig .tc := ⟨.hbm, 248, rfl⟩
abbrev main_call0_call0_v144 : Ref sig .tc := ⟨.hbm, 249, rfl⟩
abbrev main_call0_call0_c_37 : Ref sig .tc := ⟨.hbm, 250, rfl⟩
abbrev main_call0_call0_v145 : Ref sig .tc := ⟨.hbm, 251, rfl⟩
abbrev main_call0_call0_v146 : Ref sig .tc := ⟨.hbm, 252, rfl⟩
abbrev main_call0_call0_v147 : Ref sig .tc := ⟨.hbm, 253, rfl⟩
abbrev main_call0_call0_v148 : Ref sig .tc := ⟨.hbm, 254, rfl⟩
abbrev main_call0_call0_v149 : Ref sig .tc := ⟨.hbm, 255, rfl⟩
abbrev main_call0_call0_c_38 : Ref sig .tc := ⟨.hbm, 256, rfl⟩
abbrev main_call0_call0_v150 : Ref sig .tc := ⟨.hbm, 257, rfl⟩
abbrev main_call0_call0_v151 : Ref sig .tc := ⟨.hbm, 258, rfl⟩
abbrev main_call0_call0_c_39 : Ref sig .tc := ⟨.hbm, 259, rfl⟩
abbrev main_call0_call0_v152 : Ref sig .tc := ⟨.hbm, 260, rfl⟩
abbrev main_call0_call0_v153 : Ref sig .tc := ⟨.hbm, 261, rfl⟩
abbrev main_call0_call0_v154 : Ref sig .tc := ⟨.hbm, 262, rfl⟩
abbrev main_call0_call0_v155 : Ref sig .tc := ⟨.hbm, 263, rfl⟩
abbrev main_call0_call0_v156 : Ref sig .tc := ⟨.hbm, 264, rfl⟩
abbrev main_call0_call0_c_40 : Ref sig .tc := ⟨.hbm, 265, rfl⟩
abbrev main_call0_call0_v157 : Ref sig .tc := ⟨.hbm, 266, rfl⟩
abbrev main_call0_call0_v158 : Ref sig .tc := ⟨.hbm, 267, rfl⟩
abbrev main_call0_call0_c_41 : Ref sig .tc := ⟨.hbm, 268, rfl⟩
abbrev main_call0_call0_v159 : Ref sig .tc := ⟨.hbm, 269, rfl⟩
abbrev main_call0_call0_v160 : Ref sig .tc := ⟨.hbm, 270, rfl⟩
abbrev main_call0_call0_v161 : Ref sig .tc := ⟨.hbm, 271, rfl⟩
abbrev main_call0_call0_v162 : Ref sig .tc := ⟨.hbm, 272, rfl⟩
abbrev main_call0_call0_v163 : Ref sig .tc := ⟨.hbm, 273, rfl⟩
abbrev main_call0_call0_c_42 : Ref sig .tc := ⟨.hbm, 274, rfl⟩
abbrev main_call0_call0_v164 : Ref sig .tc := ⟨.hbm, 275, rfl⟩
abbrev main_call0_call0_v165 : Ref sig .tc := ⟨.hbm, 276, rfl⟩
abbrev main_call0_call0_c_43 : Ref sig .tc := ⟨.hbm, 277, rfl⟩
abbrev main_call0_call0_v166 : Ref sig .tc := ⟨.hbm, 278, rfl⟩
abbrev main_call0_call0_v167 : Ref sig .tc := ⟨.hbm, 279, rfl⟩
abbrev main_call0_call0_v168 : Ref sig .tc := ⟨.hbm, 280, rfl⟩
abbrev main_call0_call0_v169 : Ref sig .tc := ⟨.hbm, 281, rfl⟩
abbrev main_call0_call0_v170 : Ref sig .tc := ⟨.hbm, 282, rfl⟩
abbrev main_call0_v23_0 : Ref sig .tc := ⟨.hbm, 283, rfl⟩
abbrev main_call0_call0_v172 : Ref sig .tc := ⟨.hbm, 284, rfl⟩
abbrev main_call0_call0_v173 : Ref sig .tc := ⟨.hbm, 285, rfl⟩
abbrev main_call0_call0_c_44 : Ref sig .tc := ⟨.hbm, 286, rfl⟩
abbrev main_call0_call0_v174 : Ref sig .tc := ⟨.hbm, 287, rfl⟩
abbrev main_call0_v23_1 : Ref sig .tc := ⟨.hbm, 288, rfl⟩
abbrev main_call0_v24 : Ref sig .tc := ⟨.hbm, 289, rfl⟩
abbrev main_call0_c_3 : Ref sig .tc := ⟨.hbm, 290, rfl⟩
abbrev main_call0_v25 : Ref sig .tc := ⟨.hbm, 291, rfl⟩
abbrev main_call0_v26 : Ref sig .tc := ⟨.hbm, 292, rfl⟩
abbrev main_call0_c_4 : Ref sig .tc := ⟨.hbm, 293, rfl⟩
abbrev main_call0_v27 : Ref sig .tc := ⟨.hbm, 294, rfl⟩
abbrev main_call0_v28 : Ref sig .tc := ⟨.hbm, 295, rfl⟩
abbrev main_call0_v29 : Ref sig .tc := ⟨.hbm, 296, rfl⟩
abbrev main_call0_cst : Ref sig .tc := ⟨.hbm, 297, rfl⟩
abbrev main_call0_v30 : Ref sig .tc := ⟨.hbm, 298, rfl⟩
abbrev main_call0_v31 : Ref sig .tc := ⟨.hbm, 299, rfl⟩
abbrev main_call0_v32 : Ref sig .tc := ⟨.hbm, 300, rfl⟩
abbrev main_call0_v33 : Ref sig .tc := ⟨.hbm, 301, rfl⟩
abbrev main_call0_v34 : Ref sig .tc := ⟨.hbm, 302, rfl⟩
abbrev main_call0_v35 : Ref sig .tc := ⟨.hbm, 303, rfl⟩
abbrev main_call0_v36 : Ref sig .tc := ⟨.hbm, 304, rfl⟩
abbrev main_call0_v37 : Ref sig .tc := ⟨.hbm, 305, rfl⟩
abbrev main_v27 : Ref sig .tc := ⟨.hbm, 306, rfl⟩
abbrev main_cst_10 : Ref sig .tc := ⟨.hbm, 307, rfl⟩
abbrev main_v28 : Ref sig .tc := ⟨.hbm, 308, rfl⟩
abbrev main_v29 : Ref sig .tc := ⟨.hbm, 309, rfl⟩
abbrev main_cst_11 : Ref sig .tc := ⟨.hbm, 310, rfl⟩
abbrev main_v30 : Ref sig .tc := ⟨.hbm, 311, rfl⟩
abbrev main_v31 : Ref sig .tc := ⟨.hbm, 312, rfl⟩
abbrev main_cst_12 : Ref sig .tc := ⟨.hbm, 313, rfl⟩
abbrev main_v32 : Ref sig .tc := ⟨.hbm, 314, rfl⟩
abbrev main_v33 : Ref sig .tc := ⟨.hbm, 315, rfl⟩
abbrev main_v34 : Ref sig .tc := ⟨.hbm, 316, rfl⟩
abbrev main_v35 : Ref sig .tc := ⟨.hbm, 317, rfl⟩
abbrev main_v36 : Ref sig .tc := ⟨.hbm, 318, rfl⟩
abbrev main_v37 : Ref sig .tc := ⟨.hbm, 319, rfl⟩
abbrev main_v38 : Ref sig .tc := ⟨.hbm, 320, rfl⟩
abbrev main_v39 : Ref sig .tc := ⟨.hbm, 321, rfl⟩
abbrev main_call1_v0 : Ref sig .tc := ⟨.hbm, 322, rfl⟩
abbrev main_call1_cst : Ref sig .tc := ⟨.hbm, 323, rfl⟩
abbrev main_call1_c : Ref sig .tc := ⟨.hbm, 324, rfl⟩
abbrev main_call1_v1_0 : Ref sig .tc := ⟨.hbm, 325, rfl⟩
abbrev main_v40 : Ref sig .tc := ⟨.hbm, 326, rfl⟩
abbrev main_call2_v0 : Ref sig .tc := ⟨.hbm, 327, rfl⟩
abbrev main_call2_v1 : Ref sig .tc := ⟨.hbm, 328, rfl⟩
abbrev main_call2_v2 : Ref sig .tc := ⟨.hbm, 329, rfl⟩
abbrev main_call2_v3 : Ref sig .tc := ⟨.hbm, 330, rfl⟩
abbrev main_call2_v4 : Ref sig .tc := ⟨.hbm, 331, rfl⟩
abbrev main_v41 : Ref sig .tc := ⟨.hbm, 332, rfl⟩
abbrev main_v42 : Ref sig .tc := ⟨.hbm, 333, rfl⟩
abbrev main_v43 : Ref sig .tc := ⟨.hbm, 334, rfl⟩

abbrev nD : Nat := 1
abbrev τ : Topo := Topo.v7x

variable {F : FTy → Type} [FloatOps F]
-- ==== Proof.Ssa.lean ====
/- A straight line of host operations in which each buffer is written once, after the buffers it is computed from.
   `Ordered` says that of a list, by the buffers' numbers; `Ordered.fixed` says that the contents such a line ends with
   satisfy every one of its operations as an equation; `TRef.*_eq` read these equations off. -/
module

public import proofs.«01_k».proof.Proof.Gen.ReferenceIdeal
public import Idealize.ShloMosaic.Lib.StableHlo.Run
public import Idealize.ShloMosaic.Lib.StableHlo.RunHlo

@[expose] public section

namespace Cert.Ssa

open Idealize.ShloMosaic Idealize.ShloMosaic.StableHlo Idealize.SL.Sem

variable {τ : Topo} {sig : RefSig} {Val : EltTy → Type}

/-- A reference's number among the buffers of its memory space. -/
def num (r : Ref sig .tc) : ℕ := r.idx.val

/-- Every operation writes one buffer, numbered `lo` or more and higher than what is written before it and than
    whatever it is computed from. -/
inductive Ordered : ℕ → List (HloOp τ sig Val) → Prop
  | nil (lo : ℕ) : Ordered lo []
  | cons {lo : ℕ} {op : HloOp τ sig Val} {ops : List (HloOp τ sig Val)} (y : Ref sig .tc) (xs : List (Ref sig .tc))
      (hw : op.writes = {Proc.devRef .tc y})
      (hv : ∀ V V' : Valuation τ sig Val, (∀ x ∈ xs, V (Proc.devRef .tc x) = V' (Proc.devRef .tc x)) →
        op.result V (Proc.devRef .tc y) = op.result V' (Proc.devRef .tc y))
      (hs : op.bufs ⊆ tcRefs τ sig) (hf : op.fresh = ∅)
      (hlo : lo ≤ num y) (hx : ∀ x ∈ xs, num x < num y) (ho : Ordered (num y + 1) ops) : Ordered lo (op :: ops)

/-- References of different numbers are different device buffers. -/
theorem ne_of_num {x y : Ref sig .tc} (h : num x ≠ num y) :
    Proc.devRef (τ := τ) .tc x ≠ Proc.devRef .tc y := devRef_ne_of_ne fun e => h (e ▸ rfl)

/-- An ordered line leaves the buffers numbered below its bound as they were. -/
theorem Ordered.keep {lo : ℕ} {ops : List (HloOp τ sig Val)} (h : Ordered lo ops) :
    ∀ (V : Valuation τ sig Val) {r : Ref sig .tc}, num r < lo →
      after ops V (Proc.devRef .tc r) = V (Proc.devRef .tc r) := by
  induction h with
  | nil => intro V r _; rfl
  | cons y xs hw hv hs hf hlo hx ho ih =>
    intro V r hr
    rw [after_cons, ih _ (by omega), HloOp.result_of_not_mem]
    rw [hw, Finset.mem_singleton]
    exact ne_of_num (by omega)

/-- The contents an ordered line ends with are left as they are by each of its operations. -/
theorem Ordered.fixed {lo : ℕ} {ops : List (HloOp τ sig Val)} (h : Ordered lo ops) :
    ∀ (V : Valuation τ sig Val), ∀ op ∈ ops, op.result (after ops V) = after ops V := by
  induction h with
  | nil => intro V op hop; cases hop
  | @cons lo op ops y xs hw hv hs hf hlo hx ho ih =>
    intro V op' hop'
    rcases List.mem_cons.1 hop' with rfl | hop'
    · rw [after_cons]
      funext b
      by_cases hb : b = Proc.devRef .tc y
      · subst hb
        rw [ho.keep _ (Nat.lt_succ_self _)]
        refine hv _ _ fun x hxm => ?_
        have hxy := hx x hxm
        rw [ho.keep _ (by omega), HloOp.result_of_not_mem]
        rw [hw, Finset.mem_singleton]
        exact ne_of_num (by omega)
      · rw [HloOp.result_of_not_mem]
        rwa [hw, Finset.mem_singleton]
    · exact ih _ op' hop'

/-- An ordered line touches TensorCore buffers only. -/
theorem Ordered.sub {lo : ℕ} {ops : List (HloOp τ sig Val)} (h : Ordered lo ops) :
    ops.Forall fun op => op.bufs ⊆ tcRefs τ sig := by
  induction h with
  | nil => exact trivial
  | cons y xs hw hv hs hf hlo hx ho ih => exact (List.forall_cons _ _ _).2 ⟨hs, ih⟩

/-- Every operation of an ordered line determines its result. -/
theorem Ordered.fresh {lo : ℕ} {ops : List (HloOp τ sig Val)} (h : Ordered lo ops) :
    ∀ op ∈ ops, op.fresh = ∅ := by
  induction h with
  | nil => intro op hop; cases hop
  | cons y xs hw hv hs hf hlo hx ho ih =>
    intro op hop
    rcases List.mem_cons.1 hop with rfl | hop
    · exact hf
    · exact ih op hop

variable {Ta Tb Tc Te Ty : BufTy} {lo : ℕ} {ops : List (HloOp τ sig Val)}

/-- A line that starts with a constant. -/
theorem Ordered.nullary {y : TRef sig Ty} {v : Ty.Contents Val} (hlo : lo ≤ num y.ref)
    (ho : Ordered (num y.ref + 1) ops) : Ordered lo (TRef.nullary y v :: ops) :=
  .cons y.ref [] rfl (fun V V' _ => by rw [nullary_result, nullary_result]) (nullary_bufs_sub ..) rfl hlo (by simp) ho

/-- A line that starts with an operation of one operand. -/
theorem Ordered.unary {a : TRef sig Ta} {y : TRef sig Ty} {f : Ta.Contents Val → Ty.Contents Val}
    (hlo : lo ≤ num y.ref) (ha : num a.ref < num y.ref)
    (ho : Ordered (num y.ref + 1) ops) : Ordered lo (TRef.unary a y f :: ops) :=
  .cons y.ref [a.ref] rfl (fun V V' h => by rw [unary_result, unary_result, h a.ref (by simp)]) (unary_bufs_sub ..) rfl hlo
    (by simpa using ha) ho

/-- A line that starts with an operation of two operands. -/
theorem Ordered.binary {a : TRef sig Ta} {b : TRef sig Tb} {y : TRef sig Ty}
    {f : Ta.Contents Val → Tb.Contents Val → Ty.Contents Val}
    (hlo : lo ≤ num y.ref) (ha : num a.ref < num y.ref) (hb : num b.ref < num y.ref)
    (ho : Ordered (num y.ref + 1) ops) : Ordered lo (TRef.binary a b y f :: ops) :=
  .cons y.ref [a.ref, b.ref] rfl
    (fun V V' h => by rw [binary_result, binary_result, h a.ref (by simp), h b.ref (by simp)]) (binary_bufs_sub ..) rfl hlo
    (by simpa using ⟨ha, hb⟩) ho

/-- A line that starts with an operation of two operands, its buffers untyped. -/
theorem Ordered.binaryRef {a b y : Ref sig .tc} {f : a.ty.Contents Val → b.ty.Contents Val → y.ty.Contents Val} {pa pb py}
    (hlo : lo ≤ num y) (ha : num a < num y) (hb : num b < num y)
    (ho : Ordered (num y + 1) ops) : Ordered lo (StableHlo.binary (τ := τ) a b y f pa pb py :: ops) :=
  .cons y [a, b] rfl
    (fun V V' h => by rw [binary_result, binary_result, h a (by simp), h b (by simp)]) (binary_bufs_sub ..) rfl hlo
    (by simpa using ⟨ha, hb⟩) ho

/-- A line that starts with an operation of four operands. -/
theorem Ordered.quaternary {a : TRef sig Ta} {b : TRef sig Tb} {c : TRef sig Tc} {e : TRef sig Te} {y : TRef sig Ty}
    {f : Ta.Contents Val → Tb.Contents Val → Tc.Contents Val → Te.Contents Val → Ty.Contents Val}
    (hlo : lo ≤ num y.ref) (ha : num a.ref < num y.ref) (hb : num b.ref < num y.ref)
    (hc : num c.ref < num y.ref) (he : num e.ref < num y.ref)
    (ho : Ordered (num y.ref + 1) ops) : Ordered lo (TRef.quaternary a b c e y f :: ops) :=
  .cons y.ref [a.ref, b.ref, c.ref, e.ref] rfl
    (fun V V' h => by
      rw [quaternary_result, quaternary_result, h a.ref (by simp), h b.ref (by simp), h c.ref (by simp), h e.ref (by simp)])
    (quaternary_bufs_sub ..) rfl hlo (by simpa using ⟨ha, hb, hc, he⟩) ho

/-- A line that starts with a reshape. -/
theorem Ordered.reshape {a : TRef sig Ta} {y : TRef sig Ty} {he : Ta.elt = Ty.elt} {hn : Ta.shape.ShapeCasts Ty.shape}
    (hlo : lo ≤ num y.ref) (ha : num a.ref < num y.ref)
    (ho : Ordered (num y.ref + 1) ops) : Ordered lo (TRef.reshape a y he hn :: ops) :=
  .cons y.ref [a.ref] rfl (fun V V' h => by rw [reshape_result, reshape_result, h a.ref (by simp)]) (reshape_bufs_sub ..) rfl
    hlo (by simpa using ha) ho

/-- The contents `W` at a typed reference. -/
def rd (W : Valuation τ sig Val) (x : TRef sig Ta) : Ta.Contents Val := x.ofBuf (W (Proc.devRef .tc x.ref))

variable {W : Valuation τ sig Val}

/-- The equation of a constant. -/
theorem nullary_eq {y : TRef sig Ty} {v : Ty.Contents Val} (h : (TRef.nullary y v).result W = W) : rd W y = v := by
  unfold rd
  rw [← congrFun h (Proc.devRef .tc y.ref), nullary_result, TRef.ofBuf_toBuf]

/-- The equation of an operation of one operand. -/
theorem unary_eq {a : TRef sig Ta} {y : TRef sig Ty} {f : Ta.Contents Val → Ty.Contents Val}
    (h : (TRef.unary a y f).result W = W) : rd W y = f (rd W a) := by
  unfold rd
  rw [← congrFun h (Proc.devRef .tc y.ref), unary_result, TRef.ofBuf_toBuf]

/-- The equation of an operation of two operands. -/
theorem binary_eq {a : TRef sig Ta} {b : TRef sig Tb} {y : TRef sig Ty}
    {f : Ta.Contents Val → Tb.Contents Val → Ty.Contents Val}
    (h : (TRef.binary a b y f).result W = W) : rd W y = f (rd W a) (rd W b) := by
  unfold rd
  rw [← congrFun h (Proc.devRef .tc y.ref), binary_result, TRef.ofBuf_toBuf]

/-- The equation of an operation of two operands, its buffers untyped. -/
theorem binaryRef_eq {a b y : Ref sig .tc} {f : a.ty.Contents Val → b.ty.Contents Val → y.ty.Contents Val} {pa pb py}
    (h : (StableHlo.binary (τ := τ) a b y f pa pb py).result W = W) :
    W (Proc.devRef .tc y) = f (W (Proc.devRef .tc a)) (W (Proc.devRef .tc b)) := by
  rw [← congrFun h (Proc.devRef .tc y), binary_result]

/-- The equation of an operation of four operands. -/
theorem quaternary_eq {a : TRef sig Ta} {b : TRef sig Tb} {c : TRef sig Tc} {e : TRef sig Te} {y : TRef sig Ty}
    {f : Ta.Contents Val → Tb.Contents Val → Tc.Contents Val → Te.Contents Val → Ty.Contents Val}
    (h : (TRef.quaternary a b c e y f).result W = W) : rd W y = f (rd W a) (rd W b) (rd W c) (rd W e) := by
  unfold rd
  rw [← congrFun h (Proc.devRef .tc y.ref), quaternary_result, TRef.ofBuf_toBuf]

/-- A reshape between arrays whose types are given by equations. -/
theorem reshape_cast {s t : Shape} {e : EltTy} {A B : BufTy} (hA : A = ⟨s, e⟩) (hB : B = ⟨t, e⟩) (he : A.elt = B.elt)
    (hn : A.shape.ShapeCasts B.shape) (hn' : s.ShapeCasts t) (v : A.Contents Val) :
    cast (congrArg (fun T => T.Contents Val) hB) (fun i => he ▸ shapeCast B.shape v hn i)
      = (shapeCast t (cast (congrArg (fun T => T.Contents Val) hA) v) hn' : (⟨t, e⟩ : BufTy).Contents Val) := by
  subst hA hB
  rfl

/-- The equation of a reshape. -/
theorem reshape_eq {s t : Shape} {e : EltTy} {a : TRef sig ⟨s, e⟩} {y : TRef sig ⟨t, e⟩} {hn : s.ShapeCasts t}
    (h : (TRef.reshape a y rfl hn).result W = W) : rd W y = shapeCast t (rd W a) hn := by
  unfold rd
  rw [← congrFun h (Proc.devRef .tc y.ref), reshape_result]
  exact reshape_cast a.ty_eq y.ty_eq _ _ hn _

end Cert.Ssa

end
-- ==== Proof.RefOps.lean ====
/- The reference's `@main` as one list of host operations, in blocks: the softmax and its mixture, the counters, the
   threefry rounds, the uniform and Gumbel noise, the argmax, the one-hot and the result. The list is in the order
   `Ssa.Ordered` asks for, so the program ends with contents `W` that satisfy every operation (`Sat`), and `run_sat` says so
   of every execution. -/
module

public import proofs.«01_k».proof.Proof.Gen.ReferenceIdeal
public import proofs.«01_k».proof.Proof.Ssa

@[expose] public section

set_option maxRecDepth 16384

noncomputable section

namespace Cert.Ref

open Cert.ReferenceIdeal Cert.ReferenceIdeal.Gen Cert.Ssa
open Idealize.ShloMosaic Idealize.ShloMosaic.TcCoe Idealize.SL.Sem Idealize.ShloMosaic.StableHlo

variable {F : FTy → Type} [FloatOps F]

/-! ### `@main`'s buffers as typed references -/

abbrev r_arg0 : TRef sig ⟨S16384x1024, .f32⟩ := .of main_arg0
abbrev r_v0 : TRef sig ⟨S16384x32x32, .f32⟩ := .of main_v0
abbrev r_cst : TRef sig ⟨S_, .f32⟩ := .of main_cst
abbrev r_v1 : TRef sig ⟨S16384x32, .f32⟩ := .of main_v1
abbrev r_cst_0 : TRef sig ⟨S_, .f32⟩ := .of main_cst_0
abbrev r_v2 : TRef sig ⟨S16384x32, .f32⟩ := .of main_v2
abbrev r_v3 : TRef sig ⟨S16384x32, .f32⟩ := .of main_v3
abbrev r_v4 : TRef sig ⟨S16384x32x1, .f32⟩ := .of main_v4
abbrev r_v5 : TRef sig ⟨S16384x32x32, .f32⟩ := .of main_v5
abbrev r_v6 : TRef sig ⟨S16384x32x32, .f32⟩ := .of main_v6
abbrev r_v7 : TRef sig ⟨S16384x32x32, .f32⟩ := .of main_v7
abbrev r_cst_1 : TRef sig ⟨S_, .f32⟩ := .of main_cst_1
abbrev r_v8 : TRef sig ⟨S16384x32, .f32⟩ := .of main_v8
abbrev r_v9 : TRef sig ⟨S16384x32x1, .f32⟩ := .of main_v9
abbrev r_v10 : TRef sig ⟨S16384x32x32, .f32⟩ := .of main_v10
abbrev r_v11 : TRef sig ⟨S16384x32x32, .f32⟩ := .of main_v11
abbrev r_cst_2 : TRef sig ⟨S_, .f32⟩ := .of main_cst_2
abbrev r_v12 : TRef sig ⟨S16384x32x32, .f32⟩ := .of main_v12
abbrev r_cst_3 : TRef sig ⟨S_, .f32⟩ := .of main_cst_3
abbrev r_v13 : TRef sig ⟨S16384x32x32, .f32⟩ := .of main_v13
abbrev r_v14 : TRef sig ⟨S16384x32x32, .f32⟩ := .of main_v14
abbrev r_cst_4 : TRef sig ⟨S_, .f32⟩ := .of main_cst_4
abbrev r_v15 : TRef sig ⟨S16384x32x32, .f32⟩ := .of main_v15
abbrev r_v16 : TRef sig ⟨S16384x32x32, .f32⟩ := .of main_v16
abbrev r_cst_5 : TRef sig ⟨S_, .f32⟩ := .of main_cst_5
abbrev r_v17 : TRef sig ⟨S16384x32x32, .f32⟩ := .of main_v17
abbrev r_v18 : TRef sig ⟨S16384x32x32, .f32⟩ := .of main_v18
abbrev r_v19 : TRef sig ⟨S16384x32x32, .f32⟩ := .of main_v19
abbrev r_c : TRef sig ⟨S_, .i32⟩ := .of main_c
abbrev r_c_6 : TRef sig ⟨S_, .i32⟩ := .of main_c_6
abbrev r_v20 : TRef sig ⟨S_, .i32⟩ := .of main_v20
abbrev r_v21 : TRef sig ⟨S_, .i32⟩ := .of main_v21
abbrev r_v22 : TRef sig ⟨S1, .i32⟩ := .of main_v22
abbrev r_c_7 : TRef sig ⟨S_, .i32⟩ := .of main_c_7
abbrev r_v23 : TRef sig ⟨S_, .i32⟩ := .of main_v23
abbrev r_v24 : TRef sig ⟨S_, .i32⟩ := .of main_v24
abbrev r_v25 : TRef sig ⟨S1, .i32⟩ := .of main_v25
abbrev r_v26 : TRef sig ⟨S2, .i32⟩ := .of main_v26
abbrev r_cst_8 : TRef sig ⟨S_, .f32⟩ := .of main_cst_8
abbrev r_cst_9 : TRef sig ⟨S_, .f32⟩ := .of main_cst_9
abbrev r_v27 : TRef sig ⟨S16384x32x32, .f32⟩ := .of main_v27
abbrev r_cst_10 : TRef sig ⟨S_, .f32⟩ := .of main_cst_10
abbrev r_v28 : TRef sig ⟨S16384x32x32, .f32⟩ := .of main_v28
abbrev r_v29 : TRef sig ⟨S16384x32x32, .f32⟩ := .of main_v29
abbrev r_cst_11 : TRef sig ⟨S_, .f32⟩ := .of main_cst_11
abbrev r_v30 : TRef sig ⟨S16384x32x32, .f32⟩ := .of main_v30
abbrev r_v31 : TRef sig ⟨S16384x32x32, .f32⟩ := .of main_v31
abbrev r_cst_12 : TRef sig ⟨S_, .f32⟩ := .of main_cst_12
abbrev r_v32 : TRef sig ⟨S16384x32x32, .f32⟩ := .of main_v32
abbrev r_v33 : TRef sig ⟨S16384x32x32, .f32⟩ := .of main_v33
abbrev r_v34 : TRef sig ⟨S16384x32x32, .f32⟩ := .of main_v34
abbrev r_v35 : TRef sig ⟨S16384x32x32, .f32⟩ := .of main_v35
abbrev r_v36 : TRef sig ⟨S16384x32x32, .f32⟩ := .of main_v36
abbrev r_v37 : TRef sig ⟨S16384x32x32, .f32⟩ := .of main_v37
abbrev r_v38 : TRef sig ⟨S16384x32x32, .f32⟩ := .of main_v38
abbrev r_v39 : TRef sig ⟨S16384x32x32, .f32⟩ := .of main_v39
abbrev r_v40 : TRef sig ⟨S16384x32, .i32⟩ := .of main_v40
abbrev r_v41 : TRef sig ⟨S16384x32x32, .f32⟩ := .of main_v41
abbrev r_v42 : TRef sig ⟨S16384x32x32, .f32⟩ := .of main_v42
abbrev r_v43 : TRef sig ⟨S16384x32x32, .f32⟩ := .of main_v43

/-! ### The blocks -/

/-- Softmax over each group, and its mixture with the uniform distribution; the noise's key. -/
abbrev softmaxOps : List (HloOp τ sig (Elt F)) :=
  [ TRef.reshape r_arg0 r_v0 rfl shapeCasts_S16384x1024_S16384x32x32,
    TRef.nullary r_cst (constant S_ .f32 0xFF800000#32),
    StableHlo.binary main_v0 main_cst main_v1 ((fun x v => Host.reduce FloatOps.maximumf x v reducesTo_S16384x32x32_S16384x32_d2 h_S_) : (⟨S16384x32x32, .f32⟩ : BufTy).Contents (Elt F) → (⟨S_, .f32⟩ : BufTy).Contents (Elt F) → (⟨S16384x32, .f32⟩ : BufTy).Contents (Elt F)),
    TRef.nullary r_cst_0 (constant S_ .f32 0xFF800000#32),
    TRef.unary r_cst_0 r_v2 (broadcastInDim S16384x32 ![] bcast_S_S16384x32),
    TRef.binary r_v2 r_v1 r_v3 maximumf,
    TRef.unary r_v3 r_v4 (broadcastInDim S16384x32x1 ![0, 1] bcast_S16384x32_S16384x32x1_0_1),
    TRef.unary r_v4 r_v5 (broadcastInDim S16384x32x32 ![0, 1, 2] bcast_S16384x32x1_S16384x32x32_0_1_2),
    TRef.binary r_v0 r_v5 r_v6 subf,
    TRef.unary r_v6 r_v7 Host.exp,
    TRef.nullary r_cst_1 (constant S_ .f32 0x00000000#32),
    StableHlo.binary main_v7 main_cst_1 main_v8 ((fun x v => Host.reduceAdd x v reducesTo_S16384x32x32_S16384x32_d2 h_S_) : (⟨S16384x32x32, .f32⟩ : BufTy).Contents (Elt F) → (⟨S_, .f32⟩ : BufTy).Contents (Elt F) → (⟨S16384x32, .f32⟩ : BufTy).Contents (Elt F)),
    TRef.unary r_v8 r_v9 (broadcastInDim S16384x32x1 ![0, 1] bcast_S16384x32_S16384x32x1_0_1),
    TRef.unary r_v9 r_v10 (broadcastInDim S16384x32x32 ![0, 1, 2] bcast_S16384x32x1_S16384x32x32_0_1_2),
    TRef.binary r_v7 r_v10 r_v11 Host.divf,
    TRef.nullary r_cst_2 (constant S_ .f32 0x3F800000#32),
    TRef.unary r_cst_2 r_v12 (broadcastInDim S16384x32x32 ![] bcast_S_S16384x32x32),
    TRef.nullary r_cst_3 (constant S_ .f32 0x3C23D70A#32),
    TRef.unary r_cst_3 r_v13 (broadcastInDim S16384x32x32 ![] bcast_S_S16384x32x32),
    TRef.binary r_v13 r_v12 r_v14 mulf,
    TRef.nullary r_cst_4 (constant S_ .f32 0x42000000#32),
    TRef.unary r_cst_4 r_v15 (broadcastInDim S16384x32x32 ![] bcast_S_S16384x32x32),
    TRef.binary r_v14 r_v15 r_v16 Host.divf,
    TRef.nullary r_cst_5 (constant S_ .f32 0x3F7D70A4#32),
    TRef.unary r_cst_5 r_v17 (broadcastInDim S16384x32x32 ![] bcast_S_S16384x32x32),
    TRef.binary r_v17 r_v11 r_v18 mulf,
    TRef.binary r_v16 r_v18 r_v19 addf,
    TRef.nullary r_c (constantI S_ 32 1234#32),
    TRef.nullary r_c_6 (constantI S_ 32 32#32),
    TRef.binary r_c r_c_6 r_v20 Host.shrui,
    TRef.unary r_v20 r_v21 id,
    TRef.unary r_v21 r_v22 (broadcastInDim S1 ![] bcast_S_S1),
    TRef.nullary r_c_7 (constantI S_ 32 4294967295#32),
    TRef.binary r_c r_c_7 r_v23 andi,
    TRef.unary r_v23 r_v24 id,
    TRef.unary r_v24 r_v25 (broadcastInDim S1 ![] bcast_S_S1),
    TRef.binary r_v22 r_v25 r_v26 (fun a b => concatenate S2 0 [⟨S1, a⟩, ⟨S1, b⟩] concatenates_S1_S1_S2_d0),
    TRef.nullary r_cst_8 (constant S_ .f32 0x00000000#32),
    TRef.nullary r_cst_9 (constant S_ .f32 0x3F800000#32) ]

/-- The noise's key halves and the element counters. -/
abbrev counterOps (arg0 : TRef sig ⟨S2, .i32⟩) (arg1 arg2 : TRef sig ⟨S_, .f32⟩) (φ : fn_uniform.Bufs) : List (HloOp τ sig (Elt F)) :=
  [ TRef.unary arg1 φ.v0 id,
    TRef.unary arg2 φ.v1 id,
    TRef.unary φ.v0 φ.v2 (broadcastInDim S1x1x1 ![] bcast_S_S1x1x1),
    TRef.unary φ.v1 φ.v3 (broadcastInDim S1x1x1 ![] bcast_S_S1x1x1),
    TRef.unary arg0 φ.v4 (extractStridedSlice S1 ![0] · slices_S2_S1_0),
    TRef.reshape φ.v4 φ.v5 rfl shapeCasts_S1_S_,
    TRef.unary arg0 φ.v6 (extractStridedSlice S1 ![1] · slices_S2_S1_1),
    TRef.reshape φ.v6 φ.v7 rfl shapeCasts_S1_S_,
    TRef.nullary φ.v8 (iotaInDim S16384x32x32 64 0),
    TRef.nullary φ.v9 (iotaInDim S16384x32x32 64 1),
    TRef.nullary φ.v10 (iotaInDim S16384x32x32 64 2),
    TRef.nullary φ.c (constantI S_ 64 1024#64),
    TRef.unary φ.c φ.v11 (broadcastInDim S16384x32x32 ![] bcast_S_S16384x32x32),
    TRef.binary φ.v11 φ.v8 φ.v12 muli,
    TRef.nullary φ.c_0 (constantI S_ 64 32#64),
    TRef.unary φ.c_0 φ.v13 (broadcastInDim S16384x32x32 ![] bcast_S_S16384x32x32),
    TRef.binary φ.v13 φ.v9 φ.v14 muli,
    TRef.nullary φ.c_1 (constantI S_ 64 1#64),
    TRef.unary φ.c_1 φ.v15 (broadcastInDim S16384x32x32 ![] bcast_S_S16384x32x32),
    TRef.binary φ.v15 φ.v10 φ.v16 muli,
    TRef.binary φ.v12 φ.v14 φ.v17 addi,
    TRef.binary φ.v17 φ.v16 φ.v18 addi,
    TRef.nullary φ.c_2 (constantI S_ 64 32#64),
    TRef.unary φ.c_2 φ.v19 (broadcastInDim S16384x32x32 ![] bcast_S_S16384x32x32),
    TRef.binary φ.v18 φ.v19 φ.v20 Host.shrui,
    TRef.unary φ.v18 φ.v21 (trunci 32 · natLt_32_64),
    TRef.unary φ.v20 φ.v22 (trunci 32 · natLt_32_64) ]

/-- The third key word, and the counters with the first two added. -/
abbrev keyOps (arg0 arg1 : TRef sig ⟨S_, .i32⟩) (arg2 arg3 : TRef sig ⟨S16384x32x32, .i32⟩) (φ : fn_threefry2x32.Bufs) :
    List (HloOp τ sig (Elt F)) :=
  [ TRef.binary arg0 arg1 φ.v0 xori,
    TRef.nullary φ.c (constantI S_ 32 466688986#32),
    TRef.binary φ.v0 φ.c φ.v1 xori,
    TRef.unary arg0 φ.v2 (broadcastInDim S16384x32x32 ![] bcast_S_S16384x32x32),
    TRef.binary arg2 φ.v2 φ.v3 addi,
    TRef.unary arg1 φ.v4 (broadcastInDim S16384x32x32 ![] bcast_S_S16384x32x32),
    TRef.binary arg3 φ.v4 φ.v5 addi ]

/-- One mixing round: the sum of the two words, and the second word rotated (a left shift by `m`, a right shift by `n`)
    and combined with it. -/
abbrev mixOps (x0 x1 y0 : TRef sig ⟨S16384x32x32, .i32⟩) (c : TRef sig ⟨S_, .i32⟩) (b s : TRef sig ⟨S16384x32x32, .i32⟩)
    (c' : TRef sig ⟨S_, .i32⟩) (b' s' o y1 : TRef sig ⟨S16384x32x32, .i32⟩) (m n : BitVec 32) : List (HloOp τ sig (Elt F)) :=
  [ TRef.binary x0 x1 y0 addi,
    TRef.nullary c (constantI S_ 32 m),
    TRef.unary c b (broadcastInDim S16384x32x32 ![] bcast_S_S16384x32x32),
    TRef.binary x1 b s Host.shli,
    TRef.nullary c' (constantI S_ 32 n),
    TRef.unary c' b' (broadcastInDim S16384x32x32 ![] bcast_S_S16384x32x32),
    TRef.binary x1 b' s' Host.shrui,
    TRef.binary s s' o ori,
    TRef.binary y0 o y1 xori ]

/-- One key addition: a key word to the first word, another and the number `n` to the second. -/
abbrev injOps (ka kb : TRef sig ⟨S_, .i32⟩) (x0 x1 ba y0 bb t : TRef sig ⟨S16384x32x32, .i32⟩) (c : TRef sig ⟨S_, .i32⟩)
    (b y1 : TRef sig ⟨S16384x32x32, .i32⟩) (n : BitVec 32) : List (HloOp τ sig (Elt F)) :=
  [ TRef.unary ka ba (broadcastInDim S16384x32x32 ![] bcast_S_S16384x32x32),
    TRef.binary x0 ba y0 addi,
    TRef.unary kb bb (broadcastInDim S16384x32x32 ![] bcast_S_S16384x32x32),
    TRef.binary x1 bb t addi,
    TRef.nullary c (constantI S_ 32 n),
    TRef.unary c b (broadcastInDim S16384x32x32 ![] bcast_S_S16384x32x32),
    TRef.binary t b y1 addi ]

/-- Threefry's rounds 1 to 4 and the key addition after them. -/
abbrev quadOps1 (arg0 arg1 : TRef sig ⟨S_, .i32⟩) (φ : fn_threefry2x32.Bufs) : List (HloOp τ sig (Elt F)) :=
  mixOps φ.v3 φ.v5 φ.v6 φ.c_0 φ.v7 φ.v8 φ.c_1 φ.v9 φ.v10 φ.v11 φ.v12 13#32 19#32 ++
  (mixOps φ.v6 φ.v12 φ.v13 φ.c_2 φ.v14 φ.v15 φ.c_3 φ.v16 φ.v17 φ.v18 φ.v19 15#32 17#32 ++
  (mixOps φ.v13 φ.v19 φ.v20 φ.c_4 φ.v21 φ.v22 φ.c_5 φ.v23 φ.v24 φ.v25 φ.v26 26#32 6#32 ++
  (mixOps φ.v20 φ.v26 φ.v27 φ.c_6 φ.v28 φ.v29 φ.c_7 φ.v30 φ.v31 φ.v32 φ.v33 6#32 26#32 ++
  (injOps arg1 φ.v1 φ.v27 φ.v33 φ.v34 φ.v35 φ.v36 φ.v37 φ.c_8 φ.v38 φ.v39 1#32))))

/-- Threefry's rounds 5 to 8 and the key addition after them. -/
abbrev quadOps2 (arg0 arg1 : TRef sig ⟨S_, .i32⟩) (φ : fn_threefry2x32.Bufs) : List (HloOp τ sig (Elt F)) :=
  mixOps φ.v35 φ.v39 φ.v40 φ.c_9 φ.v41 φ.v42 φ.c_10 φ.v43 φ.v44 φ.v45 φ.v46 17#32 15#32 ++
  (mixOps φ.v40 φ.v46 φ.v47 φ.c_11 φ.v48 φ.v49 φ.c_12 φ.v50 φ.v51 φ.v52 φ.v53 29#32 3#32 ++
  (mixOps φ.v47 φ.v53 φ.v54 φ.c_13 φ.v55 φ.v56 φ.c_14 φ.v57 φ.v58 φ.v59 φ.v60 16#32 16#32 ++
  (mixOps φ.v54 φ.v60 φ.v61 φ.c_15 φ.v62 φ.v63 φ.c_16 φ.v64 φ.v65 φ.v66 φ.v67 24#32 8#32 ++
  (injOps φ.v1 arg0 φ.v61 φ.v67 φ.v68 φ.v69 φ.v70 φ.v71 φ.c_17 φ.v72 φ.v73 2#32))))

/-- Threefry's rounds 9 to 12 and the key addition after them. -/
abbrev quadOps3 (arg0 arg1 : TRef sig ⟨S_, .i32⟩) (φ : fn_threefry2x32.Bufs) : List (HloOp τ sig (Elt F)) :=
  mixOps φ.v69 φ.v73 φ.v74 φ.c_18 φ.v75 φ.v76 φ.c_19 φ.v77 φ.v78 φ.v79 φ.v80 13#32 19#32 ++
  (mixOps φ.v74 φ.v80 φ.v81 φ.c_20 φ.v82 φ.v83 φ.c_21 φ.v84 φ.v85 φ.v86 φ.v87 15#32 17#32 ++
  (mixOps φ.v81 φ.v87 φ.v88 φ.c_22 φ.v89 φ.v90 φ.c_23 φ.v91 φ.v92 φ.v93 φ.v94 26#32 6#32 ++
  (mixOps φ.v88 φ.v94 φ.v95 φ.c_24 φ.v96 φ.v97 φ.c_25 φ.v98 φ.v99 φ.v100 φ.v101 6#32 26#32 ++
  (injOps arg0 arg1 φ.v95 φ.v101 φ.v102 φ.v103 φ.v104 φ.v105 φ.c_26 φ.v106 φ.v107 3#32))))

/-- Threefry's rounds 13 to 16 and the key addition after them. -/
abbrev quadOps4 (arg0 arg1 : TRef sig ⟨S_, .i32⟩) (φ : fn_threefry2x32.Bufs) : List (HloOp τ sig (Elt F)) :=
  mixOps φ.v103 φ.v107 φ.v108 φ.c_27 φ.v109 φ.v110 φ.c_28 φ.v111 φ.v112 φ.v113 φ.v114 17#32 15#32 ++
  (mixOps φ.v108 φ.v114 φ.v115 φ.c_29 φ.v116 φ.v117 φ.c_30 φ.v118 φ.v119 φ.v120 φ.v121 29#32 3#32 ++
  (mixOps φ.v115 φ.v121 φ.v122 φ.c_31 φ.v123 φ.v124 φ.c_32 φ.v125 φ.v126 φ.v127 φ.v128 16#32 16#32 ++
  (mixOps φ.v122 φ.v128 φ.v129 φ.c_33 φ.v130 φ.v131 φ.c_34 φ.v132 φ.v133 φ.v134 φ.v135 24#32 8#32 ++
  (injOps arg1 φ.v1 φ.v129 φ.v135 φ.v136 φ.v137 φ.v138 φ.v139 φ.c_35 φ.v140 φ.v141 4#32))))

/-- Threefry's rounds 17 to 20 and the key addition after them. -/
abbrev quadOps5 (arg0 arg1 : TRef sig ⟨S_, .i32⟩) (φ : fn_threefry2x32.Bufs) : List (HloOp τ sig (Elt F)) :=
  mixOps φ.v137 φ.v141 φ.v142 φ.c_36 φ.v143 φ.v144 φ.c_37 φ.v145 φ.v146 φ.v147 φ.v148 13#32 19#32 ++
  (mixOps φ.v142 φ.v148 φ.v149 φ.c_38 φ.v150 φ.v151 φ.c_39 φ.v152 φ.v153 φ.v154 φ.v155 15#32 17#32 ++
  (mixOps φ.v149 φ.v155 φ.v156 φ.c_40 φ.v157 φ.v158 φ.c_41 φ.v159 φ.v160 φ.v161 φ.v162 26#32 6#32 ++
  (mixOps φ.v156 φ.v162 φ.v163 φ.c_42 φ.v164 φ.v165 φ.c_43 φ.v166 φ.v167 φ.v168 φ.v169 6#32 26#32 ++
  (injOps φ.v1 arg0 φ.v163 φ.v169 φ.v170 φ.v171 φ.v172 φ.v173 φ.c_44 φ.v174 φ.v175 5#32))))

/-- The random words made uniform numbers of the unit interval. -/
abbrev unitOps (φ : fn_uniform.Bufs) : List (HloOp τ sig (Elt F)) :=
  [ TRef.binary φ.call0.v171 φ.call0.v175 φ.v24 xori,
    TRef.nullary φ.c_3 (constantI S_ 32 9#32),
    TRef.unary φ.c_3 φ.v25 (broadcastInDim S16384x32x32 ![] bcast_S_S16384x32x32),
    TRef.binary φ.v24 φ.v25 φ.v26 Host.shrui,
    TRef.nullary φ.c_4 (constantI S_ 32 1065353216#32),
    TRef.unary φ.c_4 φ.v27 (broadcastInDim S16384x32x32 ![] bcast_S_S16384x32x32),
    TRef.binary φ.v26 φ.v27 φ.v28 ori,
    TRef.unary φ.v28 φ.v29 (bitcastToFloat .f32),
    TRef.nullary φ.cst (constant S_ .f32 0x3F800000#32),
    TRef.unary φ.cst φ.v30 (broadcastInDim S16384x32x32 ![] bcast_S_S16384x32x32),
    TRef.binary φ.v29 φ.v30 φ.v31 subf,
    TRef.binary φ.v3 φ.v2 φ.v32 subf,
    TRef.unary φ.v32 φ.v33 (broadcastInDim S16384x32x32 ![0, 1, 2] bcast_S1x1x1_S16384x32x32_0_1_2),
    TRef.binary φ.v31 φ.v33 φ.v34 mulf,
    TRef.unary φ.v2 φ.v35 (broadcastInDim S16384x32x32 ![0, 1, 2] bcast_S1x1x1_S16384x32x32_0_1_2),
    TRef.binary φ.v34 φ.v35 φ.v36 addf,
    TRef.unary φ.v2 φ.v37 (broadcastInDim S16384x32x32 ![0, 1, 2] bcast_S1x1x1_S16384x32x32_0_1_2),
    TRef.binary φ.v37 φ.v36 φ.v38 maximumf ]

/-- The Gumbel noise, and its sum with the log-probabilities. -/
abbrev noiseOps : List (HloOp τ sig (Elt F)) :=
  [ TRef.nullary r_cst_10 (constant S_ .f32 0x3F800000#32),
    TRef.unary r_cst_10 r_v28 (broadcastInDim S16384x32x32 ![] bcast_S_S16384x32x32),
    TRef.binary r_v27 r_v28 r_v29 mulf,
    TRef.nullary r_cst_11 (constant S_ .f32 0x00800000#32),
    TRef.unary r_cst_11 r_v30 (broadcastInDim S16384x32x32 ![] bcast_S_S16384x32x32),
    TRef.binary r_v29 r_v30 r_v31 addf,
    TRef.nullary r_cst_12 (constant S_ .f32 0x00800000#32),
    TRef.unary r_cst_12 r_v32 (broadcastInDim S16384x32x32 ![] bcast_S_S16384x32x32),
    TRef.binary r_v32 r_v31 r_v33 maximumf,
    TRef.unary r_v33 r_v34 Host.log,
    TRef.unary r_v34 r_v35 Host.negf,
    TRef.unary r_v35 r_v36 Host.log,
    TRef.unary r_v36 r_v37 Host.negf,
    TRef.unary r_v19 r_v38 Host.log,
    TRef.binary r_v37 r_v38 r_v39 addf ]

/-- The argmax over each group. -/
abbrev argmaxOps (arg0 : TRef sig ⟨S16384x32x32, .f32⟩) (φ : fn_argmax.Bufs) : List (HloOp τ sig (Elt F)) :=
  [ TRef.nullary φ.v0 (iotaInDim S16384x32x32 32 2),
    TRef.nullary φ.cst (constant S_ .f32 0xFF800000#32),
    TRef.nullary φ.c (constantI S_ 32 0#32),
    TRef.quaternary arg0 φ.v0 φ.cst φ.c φ.v1_0 (fun x y u v j => (Host.argReduce reducer_argmax_f32_i32 x y u v reducesTo_S16384x32x32_S16384x32_d2 h_S_ j).1),
    TRef.quaternary arg0 φ.v0 φ.cst φ.c φ.v1_1 (fun x y u v j => (Host.argReduce reducer_argmax_f32_i32 x y u v reducesTo_S16384x32x32_S16384x32_d2 h_S_ j).2) ]

/-- The one-hot vector of an index. -/
abbrev oneHotOps (arg0 : TRef sig ⟨S16384x32, .i32⟩) (φ : fn_one_hot.Bufs) : List (HloOp τ sig (Elt F)) :=
  [ TRef.unary arg0 φ.v0 (broadcastInDim S16384x32x1 ![0, 1] bcast_S16384x32_S16384x32x1_0_1),
    TRef.nullary φ.v1 (iotaInDim S1x1x32 32 2),
    TRef.unary φ.v0 φ.v2 (broadcastInDim S16384x32x32 ![0, 1, 2] bcast_S16384x32x1_S16384x32x32_0_1_2),
    TRef.unary φ.v1 φ.v3 (broadcastInDim S16384x32x32 ![0, 1, 2] bcast_S1x1x32_S16384x32x32_0_1_2),
    TRef.binary φ.v2 φ.v3 φ.v4 (cmpi .eq),
    TRef.unary φ.v4 φ.v5 (uitofp .f32) ]

/-- The probabilities less themselves, added to the one-hot vector. -/
abbrev endOps : List (HloOp τ sig (Elt F)) :=
  [ TRef.binary r_v19 r_v19 r_v42 subf,
    TRef.binary r_v41 r_v42 r_v43 addf ]

/-- The threefry call's buffers. -/
abbrev φt : fn_threefry2x32.Bufs := main_call0.call0

/-- The whole of `@main`. -/
abbrev ops : List (HloOp τ sig (Elt F)) :=
  softmaxOps ++ (counterOps r_v26 r_cst_8 r_cst_9 main_call0 ++
  (keyOps main_call0.v5 main_call0.v7 main_call0.v22 main_call0.v21 φt ++
  (quadOps1 main_call0.v5 main_call0.v7 φt ++ (quadOps2 main_call0.v5 main_call0.v7 φt ++
  (quadOps3 main_call0.v5 main_call0.v7 φt ++ (quadOps4 main_call0.v5 main_call0.v7 φt ++
  (quadOps5 main_call0.v5 main_call0.v7 φt ++ (unitOps main_call0 ++ (noiseOps ++
  (argmaxOps r_v39 main_call1 ++ (oneHotOps r_v40 main_call2 ++ endOps)))))))))))

/-- Threefry's operations as one list. -/
abbrev threefryOps (arg0 arg1 : TRef sig ⟨S_, .i32⟩) (arg2 arg3 : TRef sig ⟨S16384x32x32, .i32⟩) (φ : fn_threefry2x32.Bufs) :
    List (HloOp τ sig (Elt F)) :=
  keyOps arg0 arg1 arg2 arg3 φ ++ (quadOps1 arg0 arg1 φ ++ (quadOps2 arg0 arg1 φ ++ (quadOps3 arg0 arg1 φ ++
    (quadOps4 arg0 arg1 φ ++ quadOps5 arg0 arg1 φ))))

section Printed

variable (arg0 arg1 : TRef sig ⟨S_, .i32⟩) (arg2 arg3 : TRef sig ⟨S16384x32x32, .i32⟩) (φ : fn_threefry2x32.Bufs)

/-- Part 0 of the generator's text runs the operations listed for it. -/
theorem part0_eq : fn_threefry2x32.body_part0 (F := F) arg0 arg1 arg2 arg3 φ
    = seq ((threefryOps arg0 arg1 arg2 arg3 φ).take 60) := rfl
/-- Part 1 of the generator's text runs the operations listed for it. -/
theorem part1_eq : fn_threefry2x32.body_part1 (F := F) arg0 arg1 arg2 arg3 φ
    = seq (((threefryOps arg0 arg1 arg2 arg3 φ).drop 60).take 60) := rfl
/-- Part 2 of the generator's text runs the operations listed for it. -/
theorem part2_eq : fn_threefry2x32.body_part2 (F := F) arg0 arg1 arg2 arg3 φ
    = seq ((((threefryOps arg0 arg1 arg2 arg3 φ).drop 60).drop 60).take 60) := rfl
/-- Part 3 of the generator's text runs the operations listed for it. -/
theorem part3_eq : fn_threefry2x32.body_part3 (F := F) arg0 arg1 arg2 arg3 φ
    = seq ((((threefryOps arg0 arg1 arg2 arg3 φ).drop 60).drop 60).drop 60) := rfl

/-- The printed threefry, which is cut into four parts, is the list in order. -/
theorem threefry_eq : fn_threefry2x32.body (F := F) arg0 arg1 arg2 arg3 φ = seq (threefryOps arg0 arg1 arg2 arg3 φ) := by
  unfold fn_threefry2x32.body
  rw [part0_eq, part1_eq, part2_eq, part3_eq, ← seq_append, ← seq_append, ← seq_append, List.take_append_drop,
    List.take_append_drop, List.take_append_drop]

/-- The printed uniform generator is its counters, threefry and the conversion to the unit interval. -/
theorem uniform_eq (arg0 : TRef sig ⟨S2, .i32⟩) (arg1 arg2 : TRef sig ⟨S_, .f32⟩) (φ : fn_uniform.Bufs) :
    fn_uniform.body (F := F) arg0 arg1 arg2 φ
      = seq (counterOps arg0 arg1 arg2 φ ++ (threefryOps φ.v5 φ.v7 φ.v22 φ.v21 φ.call0 ++ unitOps φ)) := by
  rw [seq_append, seq_append, ← threefry_eq]
  rfl

/-- The argmax's text runs the operations listed for it. -/
theorem argmax_eq (arg0 : TRef sig ⟨S16384x32x32, .f32⟩) (φ : fn_argmax.Bufs) :
    fn_argmax.body (F := F) arg0 φ = seq (argmaxOps arg0 φ) := rfl
/-- The one-hot's text runs the operations listed for it. -/
theorem oneHot_eq (arg0 : TRef sig ⟨S16384x32, .i32⟩) (φ : fn_one_hot.Bufs) :
    fn_one_hot.body (F := F) arg0 φ = seq (oneHotOps arg0 φ) := rfl

end Printed

/-- A program that runs the list `l` and then `q`. -/
def Runs (p : Prog (TpuEff nD τ sig (Elt F) (Pipeline.Sig Λ₀ (Fin 0) fun p => (pcfgs (F := F) p).Adm) .tc) PUnit)
    (l : List (HloOp τ sig (Elt F)))
    (q : Prog (TpuEff nD τ sig (Elt F) (Pipeline.Sig Λ₀ (Fin 0) fun p => (pcfgs (F := F) p).Adm) .tc) PUnit) : Prop :=
  p = (seq l >>= fun _ => q)

/-- No operations. -/
theorem Runs.nil (q : Prog (TpuEff nD τ sig (Elt F) (Pipeline.Sig Λ₀ (Fin 0) fun p => (pcfgs (F := F) p).Adm) .tc) PUnit) :
    Runs q [] q := rfl

/-- One operation more. -/
theorem Runs.cons {k q : Prog (TpuEff nD τ sig (Elt F) (Pipeline.Sig Λ₀ (Fin 0) fun p => (pcfgs (F := F) p).Adm) .tc) PUnit}
    {op : HloOp τ sig (Elt F)} {l : List (HloOp τ sig (Elt F))} (h : Runs k l q) :
    Runs ((hlo rfl op fun _ => .ret (⟨⟩ : PUnit)) >>= fun _ => k) (op :: l) q := by
  unfold Runs at h ⊢; rw [h]; rfl

/-- The printed `@main` is its own blocks around the three calls. -/
theorem main_blocks (c : Dev nD) : main (F := F) c
    = (seq softmaxOps >>= fun _ => (fn_uniform.body (.of main_v26) (.of main_cst_8) (.of main_cst_9) main_call0 >>= fun _ =>
        (seq noiseOps >>= fun _ => (fn_argmax.body (.of main_v39) main_call1 >>= fun _ =>
          (fn_one_hot.body (.of main_v40) main_call2 >>= fun _ => seq endOps))))) := by
  refine (?_ : Runs (main (F := F) c) softmaxOps _)
  unfold main
  iterate 39 refine Runs.cons ?_
  refine congrArg (fun k => fn_uniform.body (F := F) (.of main_v26) (.of main_cst_8) (.of main_cst_9) main_call0 >>= k) (funext fun _ => ?_)
  refine (?_ : Runs (F := F) _ noiseOps _)
  iterate 15 refine Runs.cons ?_
  rfl

/-- The printed `@main` is the whole list, run in order. -/
theorem main_eq (c : Dev nD) : main (F := F) c = seq ops := by
  rw [main_blocks, uniform_eq, argmax_eq, oneHot_eq, ← seq_append, ← seq_append, ← seq_append, ← seq_append, ← seq_append]
  simp only [ops, threefryOps, List.append_assoc]

end Cert.Ref

end
-- ==== Proof.RefRun.lean ====
/- The reference's run: every execution ends with contents that satisfy each of its operations as an equation, its
   argument unchanged. -/
module

public import proofs.«01_k».proof.Proof.RefOps

@[expose] public section

set_option maxRecDepth 16384

noncomputable section

namespace Cert.Ref

open Cert.ReferenceIdeal Cert.ReferenceIdeal.Gen Cert.Ssa
open Idealize.ShloMosaic Idealize.ShloMosaic.TcCoe Idealize.SL.Sem Idealize.ShloMosaic.StableHlo

variable {F : FTy → Type} [FloatOps F]

/-- `W` satisfies every operation of the list. -/
def Sat (W : Valuation τ sig (Elt F)) (l : List (HloOp τ sig (Elt F))) : Prop := ∀ op ∈ l, op.result W = W

variable {W : Valuation τ sig (Elt F)}

/-- Satisfying two lists in a row. -/
theorem sat_append {l l' : List (HloOp τ sig (Elt F))} : Sat W (l ++ l') ↔ Sat W l ∧ Sat W l' := List.forall_mem_append

/-- Satisfying a first operation and the rest. -/
theorem sat_cons {op : HloOp τ sig (Elt F)} {l : List (HloOp τ sig (Elt F))} :
    Sat W (op :: l) ↔ op.result W = W ∧ Sat W l := List.forall_mem_cons

set_option maxHeartbeats 4000000 in
/-- The list is ordered. -/
theorem ops_ordered : Ordered 1 (ops (F := F)) := by
  repeat first
    | exact Ordered.nil _
    | refine Ordered.unary (by decide) (by decide) ?_
    | refine Ordered.nullary (by decide) ?_
    | refine Ordered.binary (by decide) (by decide) (by decide) ?_
    | refine Ordered.binaryRef (by decide) (by decide) (by decide) ?_
    | refine Ordered.reshape (by decide) (by decide) ?_
    | refine Ordered.quaternary (by decide) (by decide) (by decide) (by decide) (by decide) ?_

/-- On every device, from any memory with zero counters, every execution ends with contents that satisfy the whole list and
    hold the argument as it was. -/
theorem run_sat (m : (ℓ : Loc nD τ sig) → Buf (Elt F) ℓ) (ρ : Dev nD → PrngReg) :
    θ_run defs (onTc (τ := τ) (main (F := F))) ⟨m, fun _ => 0, ρ⟩ fun r => ∀ c : Dev nD,
      ∃ W : Valuation τ sig (Elt F), Sat W ops ∧ W (Proc.devRef .tc main_arg0) = m ((c.tc : Thread nD τ).loc main_arg0)
        ∧ ∀ b : Ref sig .tc, r.2.mem ((c.tc : Thread nD τ).loc b) = W (Proc.devRef .tc b) :=
  (θ_run defs _ _).mono
    (fun _ h c => ⟨after ops (launchContents m c), ops_ordered.fixed _,
      ops_ordered.keep (launchContents m c) (r := main_arg0) (by decide), h c⟩)
    (run_seq (by decide) (by decide) defs main (fun _ => ops) main_eq (fun _ => ops_ordered.sub) m ρ
      fun _ => ops_ordered.fresh)

end Cert.Ref

end
-- ==== Proof.Threefry.lean ====
/- Threefry-2x32 on one pair of words: four mixing rounds and a key addition, five times. The programs compute it element by
   element on whole arrays; their modules prove that each element is this function of that element's counter. -/
module

public import Idealize.ShloMosaic.PureOps.Float

@[expose] public section

namespace Cert.Threefry

/-- A mixing round: the sum of the two words, and the second word shifted left by `m` and right by `n`, combined with it. -/
def mix (m n : BitVec 32) (p : BitVec 32 × BitVec 32) : BitVec 32 × BitVec 32 :=
  (p.1 + p.2, (p.1 + p.2) ^^^ ((p.2 <<< m) ||| (p.2 >>> n)))

/-- A key addition: `ka` to the first word, `kb` and then `n` to the second. -/
def inj (ka kb n : BitVec 32) (p : BitVec 32 × BitVec 32) : BitVec 32 × BitVec 32 := (p.1 + ka, p.2 + kb + n)

/-- The odd groups of rounds. -/
def quadA (p : BitVec 32 × BitVec 32) : BitVec 32 × BitVec 32 :=
  mix 6#32 26#32 (mix 26#32 6#32 (mix 15#32 17#32 (mix 13#32 19#32 p)))

/-- The even groups of rounds. -/
def quadB (p : BitVec 32 × BitVec 32) : BitVec 32 × BitVec 32 :=
  mix 24#32 8#32 (mix 16#32 16#32 (mix 29#32 3#32 (mix 17#32 15#32 p)))

/-- The twenty rounds, the key words being `k0`, `k1` and `k2`. -/
def rounds (k0 k1 k2 : BitVec 32) (p : BitVec 32 × BitVec 32) : BitVec 32 × BitVec 32 :=
  inj k2 k0 5#32 (quadA (inj k1 k2 4#32 (quadB (inj k0 k1 3#32 (quadA (inj k2 k0 2#32 (quadB (inj k1 k2 1#32 (quadA p)))))))))

/-- The two words drawn for counter `x` under key `(0, 1234)`, combined to one. -/
def draw (x : BitVec 32) : BitVec 32 :=
  let p := rounds 0#32 1234#32 (0#32 ^^^ 1234#32 ^^^ 466688986#32) (0#32 + 0#32, x + 1234#32)
  p.1 ^^^ p.2

end Cert.Threefry

end
-- ==== Proof.KernelBits.lean ====
/- The kernel's random words: the payloads that compute threefry, read at an index. -/
module

public import proofs.«01_k».proof.Proof.Gen.KernelIdeal.Skeleton
public import proofs.«01_k».proof.Proof.Threefry
public import Idealize.ShloMosaic.Lib.Pipeline.Value

@[expose] public section

set_option maxRecDepth 16384

noncomputable section

namespace Cert.Body

open Cert.KernelIdeal Cert.KernelIdeal.Gen Cert.Threefry
open Idealize.ShloMosaic Idealize.SL.Sem

/-- The third key word. -/
abbrev key2 : BitVec 32 := 0#32 ^^^ 1234#32 ^^^ 466688986#32

section Turns

variable {a b v : IVec S256x1024 32} {i : S256x1024.Idx} {p : BitVec 32 × BitVec 32}

/-- A round's first word. -/
theorem turn_sum (m n : BitVec 32) (ha : a i = p.1) (hb : b i = p.2) : addi a b i = (mix m n p).1 := by
  show a i + b i = p.1 + p.2
  rw [ha, hb]

/-- The parts of a rotation. -/
theorem shl_apply (v : IVec S256x1024 32) (i : S256x1024.Idx) (m : BitVec 32) (hm : m.toNat < 32) :
    shli v (broadcast S256x1024 m) i = v i <<< m := if_pos hm
/-- A shift to the right by less than a word's width, element by element. -/
theorem shr_apply (v : IVec S256x1024 32) (i : S256x1024.Idx) (n : BitVec 32) (hn : n.toNat < 32) :
    shrui v (broadcast S256x1024 n) i = v i >>> n := if_pos hn

/-- A round's second word. -/
theorem turn_xor (m n : BitVec 32) (hm : m.toNat < 32) (hn : n.toNat < 32) (ha : a i = (mix m n p).1) (hv : v i = p.2) :
    xori a (ori (shli v (broadcast S256x1024 m)) (shrui v (broadcast S256x1024 n))) i = (mix m n p).2 := by
  show a i ^^^ (shli v (broadcast S256x1024 m) i ||| shrui v (broadcast S256x1024 n) i) = _
  rw [shl_apply v i m hm, shr_apply v i n hn, ha, hv]
  rfl

/-- A key addition's first word. -/
theorem key_fst (ka kb n : BitVec 32) (ha : a i = p.1) : addi a (broadcast S256x1024 ka) i = (inj ka kb n p).1 := by
  show a i + ka = p.1 + ka
  rw [ha]

/-- A key addition's second word. -/
theorem key_snd (ka kb n : BitVec 32) (hb : b i = p.2) :
    addi (addi b (broadcast S256x1024 kb)) (broadcast S256x1024 n) i = (inj ka kb n p).2 := by
  show b i + kb + n = p.2 + kb + n
  rw [hb]

end Turns

/-- The first four rounds and the first key addition. -/
theorem first_rounds (v37 v38 v40 : IVec S256x1024 32) (i : S256x1024.Idx) (x : BitVec 32)
    (hx : k0_pay11 v37 v38 v40 i = x + 1234#32) :
    k0_pay19 v37 v38 v40 i = (inj 1234#32 key2 1#32 (quadA (0#32 + 0#32, x + 1234#32))).1
      ∧ k0_pay21 (k0_pay20 v37 v38 v40) 1#32 i = (inj 1234#32 key2 1#32 (quadA (0#32 + 0#32, x + 1234#32))).2 := by
  have a0 : (addi (broadcast S256x1024 0#32) (broadcast S256x1024 0#32)) i = 0#32 + 0#32 := rfl
  have s1 : k0_pay12 v37 v38 v40 i = (mix 13#32 19#32 (0#32 + 0#32, x + 1234#32)).1 := turn_sum _ _ a0 hx
  have t1 : k0_pay13 v37 v38 v40 i = (mix 13#32 19#32 (0#32 + 0#32, x + 1234#32)).2 := turn_xor _ _ (by decide) (by decide) s1 hx
  have s2 : k0_pay14 v37 v38 v40 i = _ := turn_sum 15#32 17#32 s1 t1
  have t2 : k0_pay15 v37 v38 v40 i = _ := turn_xor 15#32 17#32 (by decide) (by decide) s2 t1
  have s3 : k0_pay16 v37 v38 v40 i = _ := turn_sum 26#32 6#32 s2 t2
  have t3 : k0_pay17 v37 v38 v40 i = _ := turn_xor 26#32 6#32 (by decide) (by decide) s3 t2
  have s4 : k0_pay18 v37 v38 v40 i = _ := turn_sum 6#32 26#32 s3 t3
  exact ⟨key_fst 1234#32 key2 1#32 s4, key_snd 1234#32 key2 1#32 (turn_xor 6#32 26#32 (by decide) (by decide) s4 t3)⟩

/-- The words after the ninth round of `p`. -/
abbrev nine (p : BitVec 32 × BitVec 32) : BitVec 32 × BitVec 32 := mix 13#32 19#32 (inj key2 0#32 2#32 (quadB p))

/-- Rounds five to nine, and the tenth begun. -/
theorem middle_rounds (v81 v83 : IVec S256x1024 32) (i : S256x1024.Idx) (p : BitVec 32 × BitVec 32)
    (h1 : v81 i = p.1) (h2 : k0_pay21 v83 1#32 i = p.2) :
    k0_pay31 key2 v81 v83 1#32 i = (nine p).2 ∧ k0_pay32 key2 v81 v83 1#32 i = (mix 15#32 17#32 (nine p)).1
      ∧ k0_pay33 key2 v81 v83 1#32 i = (nine p).2 <<< 15#32 := by
  have s1 : k0_pay22 v81 v83 1#32 i = _ := turn_sum 17#32 15#32 h1 h2
  have t1 : k0_pay23 v81 v83 1#32 i = _ := turn_xor 17#32 15#32 (by decide) (by decide) s1 h2
  have s2 : k0_pay24 v81 v83 1#32 i = _ := turn_sum 29#32 3#32 s1 t1
  have t2 : k0_pay25 v81 v83 1#32 i = _ := turn_xor 29#32 3#32 (by decide) (by decide) s2 t1
  have s3 : k0_pay26 v81 v83 1#32 i = _ := turn_sum 16#32 16#32 s2 t2
  have t3 : k0_pay27 v81 v83 1#32 i = _ := turn_xor 16#32 16#32 (by decide) (by decide) s3 t2
  have s4 : k0_pay28 v81 v83 1#32 i = _ := turn_sum 24#32 8#32 s3 t3
  have u1 := key_fst key2 0#32 2#32 s4
  have u2 : k0_pay29 v81 v83 1#32 i = _ := key_snd key2 0#32 2#32 (turn_xor 24#32 8#32 (by decide) (by decide) s4 t3)
  have s5 : k0_pay30 key2 v81 v83 1#32 i = _ := turn_sum 13#32 19#32 u1 u2
  have t5 : k0_pay31 key2 v81 v83 1#32 i = (nine p).2 := turn_xor 13#32 19#32 (by decide) (by decide) s5 u2
  refine ⟨t5, turn_sum 15#32 17#32 s5 t5, ?_⟩
  exact (shl_apply _ i 15#32 (by decide)).trans (by rw [t5])

/-- The words after the fifteenth round, from those after the ninth. -/
abbrev fifteen (q : BitVec 32 × BitVec 32) : BitVec 32 × BitVec 32 :=
  mix 16#32 16#32 (mix 29#32 3#32 (mix 17#32 15#32 (inj 0#32 1234#32 3#32 (mix 6#32 26#32 (mix 26#32 6#32 (mix 15#32 17#32 q))))))

/-- Rounds ten to fifteen, and the sixteenth begun. -/
theorem later_rounds (v126 v127 v129 : IVec S256x1024 32) (i : S256x1024.Idx) (q : BitVec 32 × BitVec 32)
    (h1 : v126 i = q.2) (h2 : v127 i = (mix 15#32 17#32 q).1) (h3 : v129 i = q.2 <<< 15#32) :
    k0_pay44 v126 v127 v129 17#32 i = (fifteen q).2 ∧ k0_pay45 v126 v127 v129 17#32 i = (mix 24#32 8#32 (fifteen q)).1 := by
  have t2 : k0_pay34 v126 v127 v129 17#32 i = (mix 15#32 17#32 q).2 := by
    show v127 i ^^^ (v129 i ||| shrui v126 (broadcast S256x1024 17#32) i) = _
    rw [shr_apply v126 i 17#32 (by decide), h1, h2, h3]
    rfl
  have s3 : k0_pay35 v126 v127 v129 17#32 i = _ := turn_sum 26#32 6#32 h2 t2
  have t3 : k0_pay36 v126 v127 v129 17#32 i = _ := turn_xor 26#32 6#32 (by decide) (by decide) s3 t2
  have s4 : k0_pay37 v126 v127 v129 17#32 i = _ := turn_sum 6#32 26#32 s3 t3
  have u1 := key_fst 0#32 1234#32 3#32 s4
  have u2 : k0_pay38 v126 v127 v129 17#32 i = _ := key_snd 0#32 1234#32 3#32 (turn_xor 6#32 26#32 (by decide) (by decide) s4 t3)
  have s5 : k0_pay39 v126 v127 v129 17#32 i = _ := turn_sum 17#32 15#32 u1 u2
  have t5 : k0_pay40 v126 v127 v129 17#32 i = _ := turn_xor 17#32 15#32 (by decide) (by decide) s5 u2
  have s6 : k0_pay41 v126 v127 v129 17#32 i = _ := turn_sum 29#32 3#32 s5 t5
  have t6 : k0_pay42 v126 v127 v129 17#32 i = _ := turn_xor 29#32 3#32 (by decide) (by decide) s6 t5
  have s7 : k0_pay43 v126 v127 v129 17#32 i = _ := turn_sum 16#32 16#32 s6 t6
  have t7 : k0_pay44 v126 v127 v129 17#32 i = _ := turn_xor 16#32 16#32 (by decide) (by decide) s7 t6
  exact ⟨t7, turn_sum 24#32 8#32 s7 t7⟩

/-- The sixteenth round to the end. -/
theorem last_rounds (v174 v175 : IVec S256x1024 32) (i : S256x1024.Idx) (r : BitVec 32 × BitVec 32)
    (h1 : v174 i = r.2) (h2 : v175 i = (mix 24#32 8#32 r).1) :
    k0_pay46 key2 v174 v175 24#32 i
      = (inj key2 0#32 5#32 (quadA (inj 1234#32 key2 4#32 (mix 24#32 8#32 r)))).1
        ^^^ (inj key2 0#32 5#32 (quadA (inj 1234#32 key2 4#32 (mix 24#32 8#32 r)))).2 := by
  have t0 := turn_xor 24#32 8#32 (by decide) (by decide) h2 h1
  have u1 := key_fst 1234#32 key2 4#32 h2
  have u2 := key_snd 1234#32 key2 4#32 t0
  have s1 := turn_sum 13#32 19#32 u1 u2
  have t1 := turn_xor 13#32 19#32 (by decide) (by decide) s1 u2
  have s2 := turn_sum 15#32 17#32 s1 t1
  have t2 := turn_xor 15#32 17#32 (by decide) (by decide) s2 t1
  have s3 := turn_sum 26#32 6#32 s2 t2
  have t3 := turn_xor 26#32 6#32 (by decide) (by decide) s3 t2
  have s4 := turn_sum 6#32 26#32 s3 t3
  have t4 := turn_xor 6#32 26#32 (by decide) (by decide) s4 t3
  have w1 := key_fst key2 0#32 5#32 s4
  have w2 := key_snd key2 0#32 5#32 t4
  exact congrArg₂ (· ^^^ ·) w1 w2

/-- All twenty rounds of the kernel's block. -/
def words (v37 v38 v40 : IVec S256x1024 32) : IVec S256x1024 32 :=
  k0_pay46 key2
    (k0_pay44 (k0_pay31 key2 (k0_pay19 v37 v38 v40) (k0_pay20 v37 v38 v40) 1#32) (k0_pay32 key2 (k0_pay19 v37 v38 v40) (k0_pay20 v37 v38 v40) 1#32)
      (k0_pay33 key2 (k0_pay19 v37 v38 v40) (k0_pay20 v37 v38 v40) 1#32) 17#32)
    (k0_pay45 (k0_pay31 key2 (k0_pay19 v37 v38 v40) (k0_pay20 v37 v38 v40) 1#32) (k0_pay32 key2 (k0_pay19 v37 v38 v40) (k0_pay20 v37 v38 v40) 1#32)
      (k0_pay33 key2 (k0_pay19 v37 v38 v40) (k0_pay20 v37 v38 v40) 1#32) 17#32) 24#32

/-- The block's word at an index is the one drawn for the index's counter. -/
theorem words_apply (v37 v38 v40 : IVec S256x1024 32) (i : S256x1024.Idx) (x : BitVec 32)
    (hx : k0_pay11 v37 v38 v40 i = x + 1234#32) : words v37 v38 v40 i = draw x := by
  obtain ⟨a1, a2⟩ := first_rounds v37 v38 v40 i x hx
  obtain ⟨b1, b2, b3⟩ := middle_rounds _ _ i _ a1 a2
  obtain ⟨c1, c2⟩ := later_rounds _ _ _ i _ b1 b2 b3
  exact last_rounds _ _ i _ c1 c2

/-- The counter of the number at `(r, c)` of the block that step `t` computes is its place in the whole array. -/
theorem counter_apply (t r c : ℕ) (ht : t < 64) (hr : r < 256) (hc : c < 1024) :
    ((BitVec.ofNat 32 t * 256#32 + BitVec.ofNat 32 r) * 1024#32 + BitVec.ofNat 32 c) = BitVec.ofNat 32 (1024 * (256 * t + r) + c) := by
  apply BitVec.eq_of_toNat_eq
  simp only [BitVec.toNat_add, BitVec.toNat_mul, BitVec.toNat_ofNat]
  omega

/-- The block's word at an index, from the grid step. -/
theorem words_at (g : grid0.Coords) (i : S256x1024.Idx) :
    words (iota .tc S256x1024 32 [0] iota_S256x1024_d0_w32) (iota .tc S256x1024 32 [1] iota_S256x1024_d1_w32) (k0_pay10 g) i
      = draw (BitVec.ofNat 32 (1024 * (256 * (g 0).val + (i 0).val) + (i 1).val)) := by
  apply words_apply
  have e0 : iota .tc S256x1024 32 [0] iota_S256x1024_d0_w32 i = BitVec.ofNat 32 (i 0).val := iota_single_apply _ _ _ _ _ _
  have e1 : iota .tc S256x1024 32 [1] iota_S256x1024_d1_w32 i = BitVec.ofNat 32 (i 1).val := iota_single_apply _ _ _ _ _ _
  rw [← counter_apply (g 0).val (i 0).val (i 1).val (g 0).isLt (i 0).isLt (i 1).isLt, ← e0, ← e1]
  rfl

end Cert.Body

end
-- ==== Proof.KernelOut.lean ====
/- What one step of the kernel leaves in its output block and in its three carried matrices. -/
module

public import proofs.«01_k».proof.Proof.KernelBits
public import proofs.«01_k».proof.Proof.Gen.KernelIdeal.Frame
public import Idealize.ShloMosaic.Lib.Pipeline.Value
public import Idealize.ShloMosaic.Lib.Tactic

@[expose] public section

set_option maxRecDepth 16384

noncomputable section

namespace Cert.Body

open Cert.KernelIdeal Cert.KernelIdeal.Gen
open Idealize.ShloMosaic Idealize.ShloMosaic.TcCoe Idealize.SL.Sem

variable {F : FTy → Type} [FloatOps F]

/-- The row numbers of a block. -/
abbrev rowNo : IVec S256x1024 32 := iota .tc S256x1024 32 [0] iota_S256x1024_d0_w32
/-- The lane numbers of a block. -/
abbrev laneNo : IVec S256x1024 32 := iota .tc S256x1024 32 [1] iota_S256x1024_d1_w32

/-- Of the three matrices that the first step writes, the one that sums each group's lanes. -/
abbrev sumsM : Vec F S1024x32 .bf16 := k0_pay1
/-- The matrix that copies a group's sum to its lanes. -/
abbrev copiesM : Vec F S32x1024 .bf16 :=
  k0_pay4 (iota .tc S32x1024 32 [0] iota_S32x1024_d0_w32) (iota .tc S32x1024 32 [1] iota_S32x1024_d1_w32) 32#32 k0_pay2 k0_pay3
/-- The matrix that counts the marks of a group up to a lane. -/
abbrev countsM : Vec F S1024x1024 .bf16 :=
  k0_pay8 (iota .tc S1024x1024 32 [0] iota_S1024x1024_d0_w32) (iota .tc S1024x1024 32 [1] iota_S1024x1024_d1_w32) k0_pay5 k0_pay6 k0_pay7

/-- The output block of step `i`, from its logits and the three matrices. -/
def blockOut (i : grid0.Coords) (x : Vec F S256x1024 .f32) (m0 : Vec F S1024x32 .bf16) (m1 : Vec F S32x1024 .bf16)
    (m2 : Vec F S1024x1024 .bf16) : Vec F S256x1024 .f32 :=
  k0_pay51 laneNo (k0_pay47 (k0_pay9 x m0 m1) (words rowNo laneNo (k0_pay10 i)))
    (k0_pay48 (k0_pay9 x m0 m1) laneNo (words rowNo laneNo (k0_pay10 i)))
    (k0_pay49 (k0_pay9 x m0 m1) laneNo (words rowNo laneNo (k0_pay10 i)))
    (k0_pay50 (k0_pay9 x m0 m1) laneNo (words rowNo laneNo (k0_pay10 i))) m2

/-- Two zero offsets. -/
theorem zeros2 : (![0, 0] : Fin 2 → Nat) = fun _ => 0 := funext fun a => by fin_cases a <;> rfl

section Cases

variable (c : Dev nD) (i : grid0.Coords) (a1 : Memref sig .tc .vmem S256x1024 .f32) (h1 : a1.IsWhole)
  (a2 : Memref sig .tc .vmem S256x1024 .f32) (h2 : a2.IsWhole) (a3 : Memref sig .tc .vmem S1024x32 .bf16) (h3 : a3.IsWhole)
  (a4 : Memref sig .tc .vmem S32x1024 .bf16) (h4 : a4.IsWhole) (a5 : Memref sig .tc .vmem S1024x1024 .bf16) (h5 : a5.IsWhole)

/-- A later step's output block. -/
theorem out_later (hc : ¬cond0_0 i) (x : Vec F S256x1024 .f32) (m0 : Vec F S1024x32 .bf16) (m1 : Vec F S32x1024 .bf16)
    (m2 : Vec F S1024x1024 .bf16) : out0_B_1 c i a1 h1 a2 h2 a3 h3 a4 h4 a5 h5 hc x m0 m1 m2 = blockOut i x m0 m1 m2 := by
  unfold out0_B_1
  rw [View.read_writes_eq_canon _ _ _ (cover0_B_1 c i a1 h1 a2 h2 a3 h3 a4 h4 a5 h5 hc x m0 m1 m2)]
  unfold kernelRun0_B
  dsimp only
  sl_unfold_words
  rw [View.canon_unit_zero zeros2]
  simp only [View.readAt_eq_ld, h1.read_unread, h3.read_unread, h4.read_unread, h5.read_unread, View.ld_unit_zero (S := S256x1024) zeros2,
    View.ld_unit_zero (S := S1024x32) zeros2, View.ld_unit_zero (S := S32x1024) zeros2, View.ld_unit_zero (S := S1024x1024) zeros2]
  rfl

/-- The first step leaves the summing matrix. -/
theorem sums_first (hc : cond0_0 i) (x : Vec F S256x1024 .f32) : sout0_A_0 c i a1 h1 a2 h2 a3 h3 a4 h4 a5 h5 hc x = sumsM := by
  unfold sout0_A_0
  rw [View.read_writes_eq_canon _ _ _ (scover0_A_0 c i a1 h1 a2 h2 a3 h3 a4 h4 a5 h5 hc x)]
  unfold kernelRun0_A
  dsimp only
  sl_unfold_words
  rw [View.canon_unit_zero zeros2]

/-- The first step leaves the copying matrix. -/
theorem copies_first (hc : cond0_0 i) (x : Vec F S256x1024 .f32) : sout0_A_1 c i a1 h1 a2 h2 a3 h3 a4 h4 a5 h5 hc x = copiesM := by
  unfold sout0_A_1
  rw [View.read_writes_eq_canon _ _ _ (scover0_A_1 c i a1 h1 a2 h2 a3 h3 a4 h4 a5 h5 hc x)]
  unfold kernelRun0_A
  dsimp only
  sl_unfold_words
  rw [View.canon_unit_zero zeros2]

/-- The first step leaves the counting matrix. -/
theorem counts_first (hc : cond0_0 i) (x : Vec F S256x1024 .f32) : sout0_A_2 c i a1 h1 a2 h2 a3 h3 a4 h4 a5 h5 hc x = countsM := by
  unfold sout0_A_2
  rw [View.read_writes_eq_canon _ _ _ (scover0_A_2 c i a1 h1 a2 h2 a3 h3 a4 h4 a5 h5 hc x)]
  unfold kernelRun0_A
  dsimp only
  sl_unfold_words
  rw [View.canon_unit_zero zeros2]

/-- The first step's output block. -/
theorem out_first (hc : cond0_0 i) (x : Vec F S256x1024 .f32) :
    out0_A_1 c i a1 h1 a2 h2 a3 h3 a4 h4 a5 h5 hc x = blockOut i x sumsM copiesM countsM := by
  unfold out0_A_1
  rw [View.read_writes_eq_canon _ _ _ (cover0_A_1 c i a1 h1 a2 h2 a3 h3 a4 h4 a5 h5 hc x)]
  unfold kernelRun0_A
  dsimp only
  sl_unfold_words
  rw [View.canon_unit_zero (S := S256x1024) zeros2, View.readCov_unit_zero (S := S1024x32) _ zeros2,
    View.readCov_unit_zero (S := S32x1024) _ zeros2, View.readCov_unit_zero (S := S1024x1024) _ zeros2]
  simp only [View.readAt_eq_ld, h1.read_unread, View.ld_unit_zero (S := S256x1024) zeros2]
  rfl

end Cases

end Cert.Body

end
-- ==== Proof.Butterfly.lean ====
/- The kernel's exchange of maxima across the lanes: five steps, each taking the maximum with the lane whose number differs in one
   bit, leave each lane at the greatest value of its group of thirty-two. -/
module

public import proofs.«01_k».proof.Proof.Gen.KernelIdeal.Skeleton
public import Idealize.ShloMosaic.Lib.Pipeline.Value
public import Idealize.ShloMosaic.Lib.ValueIdxCore
public import Idealize.ShloMosaic.Lib.IdealHost

@[expose] public section

set_option maxRecDepth 16384

noncomputable section

namespace Cert.Body

open Cert.KernelIdeal Cert.KernelIdeal.Gen
open Idealize.ShloMosaic Idealize.ShloMosaic.ValueIdx Idealize.SL.Sem

/-- The lane whose number differs from `l` in the bit `k`. -/
def other (k : ℕ) (l : Fin 1024) : Fin 1024 :=
  ⟨if l.val / k % 2 = 0 then min (l.val + k) 1023 else l.val - k, by have := l.isLt; split <;> omega⟩

/-- A value is the greatest among those of the lanes of one block of `k`. -/
def BlockMax (k : ℕ) (f w : Fin 1024 → EReal) : Prop :=
  ∀ l, IsGreatest {x | ∃ j : Fin 1024, j.val / k = l.val / k ∧ x = f j} (w l)

/-- Each lane is its own block's greatest. -/
theorem blockMax_one (f : Fin 1024 → EReal) : BlockMax 1 f f := fun l => by
  refine ⟨⟨l, rfl, rfl⟩, ?_⟩
  rintro x ⟨j, hj, rfl⟩
  rw [Nat.div_one, Nat.div_one] at hj
  rw [Fin.ext hj]

/-- A step doubles the blocks. -/
theorem BlockMax.double {k : ℕ} {f w : Fin 1024 → EReal} (h : BlockMax k f w)
    (ho : ∀ l : Fin 1024, (other k l).val / k = if l.val / k % 2 = 0 then l.val / k + 1 else l.val / k - 1) :
    BlockMax (k * 2) f (fun l => max (w l) (w (other k l))) := by
  intro l
  have e : ∀ j : Fin 1024, j.val / (k * 2) = l.val / (k * 2) ↔ (j.val / k = l.val / k ∨ j.val / k = (other k l).val / k) := by
    intro j
    rw [← Nat.div_div_eq_div_mul, ← Nat.div_div_eq_div_mul, ho]
    generalize j.val / k = b
    generalize l.val / k = a
    split <;> omega
  show IsGreatest _ (max (w l) (w (other k l)))
  constructor
  · rcases le_total (w l) (w (other k l)) with hle | hle
    · rw [max_eq_right hle]
      obtain ⟨j, hj, ej⟩ := (h (other k l)).1
      exact ⟨j, (e j).2 (Or.inr hj), ej⟩
    · rw [max_eq_left hle]
      obtain ⟨j, hj, ej⟩ := (h l).1
      exact ⟨j, (e j).2 (Or.inl hj), ej⟩
  · rintro x ⟨j, hj, rfl⟩
    rcases (e j).1 hj with hj | hj
    · exact le_max_of_le_left ((h l).2 ⟨j, hj, rfl⟩)
    · exact le_max_of_le_right ((h (other k l)).2 ⟨j, hj, rfl⟩)

/-- At distance 1 the partner of a lane lies in the neighbouring run of 1 lanes. -/
theorem other_one : ∀ l : Fin 1024, (other 1 l).val / 1 = if l.val / 1 % 2 = 0 then l.val / 1 + 1 else l.val / 1 - 1 := by
  intro l; have := l.isLt; unfold other; dsimp only; split <;> omega
/-- At distance 2 the partner of a lane lies in the neighbouring run of 2 lanes. -/
theorem other_two : ∀ l : Fin 1024, (other 2 l).val / 2 = if l.val / 2 % 2 = 0 then l.val / 2 + 1 else l.val / 2 - 1 := by
  intro l; have := l.isLt; unfold other; dsimp only; split <;> omega
/-- At distance 4 the partner of a lane lies in the neighbouring run of 4 lanes. -/
theorem other_four : ∀ l : Fin 1024, (other 4 l).val / 4 = if l.val / 4 % 2 = 0 then l.val / 4 + 1 else l.val / 4 - 1 := by
  intro l; have := l.isLt; unfold other; dsimp only; split <;> omega
/-- At distance 8 the partner of a lane lies in the neighbouring run of 8 lanes. -/
theorem other_eight : ∀ l : Fin 1024, (other 8 l).val / 8 = if l.val / 8 % 2 = 0 then l.val / 8 + 1 else l.val / 8 - 1 := by
  intro l; have := l.isLt; unfold other; dsimp only; split <;> omega
/-- At distance 16 the partner of a lane lies in the neighbouring run of 16 lanes. -/
theorem other_sixteen : ∀ l : Fin 1024, (other 16 l).val / 16 = if l.val / 16 % 2 = 0 then l.val / 16 + 1 else l.val / 16 - 1 := by
  intro l; have := l.isLt; unfold other; dsimp only; split <;> omega

/-! ### One step of the kernel -/

section Step

variable {α : Type} {k n : ℕ}

/-- The array turned `k` lanes to the left, where the turned lane is inside. -/
theorem left_apply (v : S256x1024.Idx → α) (h1 : S256x1024.Slices ![0, k] ⟨2, ![256, n]⟩) (h2 : S256x1024.Slices ![0, 0] ⟨2, ![256, k]⟩)
    (h3 : Shape.Concatenates [⟨2, ![256, n]⟩, ⟨2, ![256, k]⟩] S256x1024 1) (r : Fin 256) (l : Fin 1024) (hl : l.val < n) (hk : l.val + k < 1024) :
    concatenate S256x1024 1 [⟨⟨2, ![256, n]⟩, extractStridedSlice ⟨2, ![256, n]⟩ ![0, k] v h1⟩,
        ⟨⟨2, ![256, k]⟩, extractStridedSlice ⟨2, ![256, k]⟩ ![0, 0] v h2⟩] h3 (ix2 r l) = v (ix2 r ⟨l.val + k, hk⟩) :=
  (concatenate_pair_apply_left 1 _ _ h3 (ix2 r l) rfl (ix2 r ⟨l.val, hl⟩) fun b => by fin_cases b <;> rfl).trans
    (extractStridedSlice_apply _ v h1 _ _ fun a => by
      fin_cases a
      · exact (Nat.zero_add _).symm
      · exact Nat.add_comm _ _)

/-- The array turned `k` lanes to the right, where the turned lane is inside. -/
theorem right_apply (v : S256x1024.Idx → α) (h1 : S256x1024.Slices ![0, n] ⟨2, ![256, k]⟩) (h2 : S256x1024.Slices ![0, 0] ⟨2, ![256, n]⟩)
    (h3 : Shape.Concatenates [⟨2, ![256, k]⟩, ⟨2, ![256, n]⟩] S256x1024 1) (r : Fin 256) (l : Fin 1024) (hk : k ≤ l.val) (hn : l.val - k < n) :
    concatenate S256x1024 1 [⟨⟨2, ![256, k]⟩, extractStridedSlice ⟨2, ![256, k]⟩ ![0, n] v h1⟩,
        ⟨⟨2, ![256, n]⟩, extractStridedSlice ⟨2, ![256, n]⟩ ![0, 0] v h2⟩] h3 (ix2 r l)
      = v (ix2 r ⟨l.val - k, (Nat.sub_le _ _).trans_lt l.isLt⟩) :=
  (concatenate_pair_apply_right 1 _ _ h3 (ix2 r l) rfl rfl (ix2 r ⟨l.val - k, hn⟩)
      (fun b hb => by
        fin_cases b
        · rfl
        · exact absurd rfl hb) (Nat.sub_add_cancel hk)).trans
    (extractStridedSlice_apply _ v h2 _ _ fun a => by
      fin_cases a
      · exact (Nat.zero_add _).symm
      · exact (Nat.zero_add _).symm)

/-- One step: the maximum with the other lane's value. -/
theorem step_apply (v : FVec Ideal S256x1024 .f32) (a1 : S256x1024.Slices ![0, k] ⟨2, ![256, n]⟩) (a2 : S256x1024.Slices ![0, 0] ⟨2, ![256, k]⟩)
    (a3 : Shape.Concatenates [⟨2, ![256, n]⟩, ⟨2, ![256, k]⟩] S256x1024 1)
    (b1 : S256x1024.Slices ![0, n] ⟨2, ![256, k]⟩) (b2 : S256x1024.Slices ![0, 0] ⟨2, ![256, n]⟩)
    (b3 : Shape.Concatenates [⟨2, ![256, k]⟩, ⟨2, ![256, n]⟩] S256x1024 1) (lane : IVec S256x1024 32) (m : BitVec 32)
    (hn : n + k = 1024) (hk : k ≤ 1024)
    (hm : ∀ l : Fin 1024, (IntOp.cmpi .eq (IntOp.andi (BitVec.ofNat 32 l.val) m) 0#32 = 1) ↔ l.val / k % 2 = 0)
    (he : ∀ l : Fin 1024, l.val / k % 2 = 0 → l.val + k < 1024) (hd : ∀ l : Fin 1024, ¬ l.val / k % 2 = 0 → k ≤ l.val)
    (hlane : ∀ (r : Fin 256) (l : Fin 1024), lane (ix2 r l) = BitVec.ofNat 32 l.val) (r : Fin 256) (l : Fin 1024) :
    maximumf v (select (cmpi .eq (andi lane (broadcast S256x1024 m)) (broadcast S256x1024 0#32))
      (concatenate S256x1024 1 [⟨⟨2, ![256, n]⟩, extractStridedSlice ⟨2, ![256, n]⟩ ![0, k] v a1⟩,
        ⟨⟨2, ![256, k]⟩, extractStridedSlice ⟨2, ![256, k]⟩ ![0, 0] v a2⟩] a3)
      (concatenate S256x1024 1 [⟨⟨2, ![256, k]⟩, extractStridedSlice ⟨2, ![256, k]⟩ ![0, n] v b1⟩,
        ⟨⟨2, ![256, n]⟩, extractStridedSlice ⟨2, ![256, n]⟩ ![0, 0] v b2⟩] b3)) (ix2 r l)
      = (max (v (ix2 r l)) (v (ix2 r (other k l))) : EReal) := by
  show (max (v (ix2 r l)) (if IntOp.cmpi .eq (IntOp.andi (lane (ix2 r l)) m) 0#32 = 1 then _ else _) : EReal) = _
  rw [hlane]
  have hl := l.isLt
  by_cases h : l.val / k % 2 = 0
  · rw [if_pos ((hm l).2 h), left_apply v a1 a2 a3 r l (by have := he l h; omega) (he l h)]
    have e : other k l = ⟨l.val + k, he l h⟩ := Fin.ext (by
      have := he l h
      show (if l.val / k % 2 = 0 then min (l.val + k) 1023 else l.val - k) = l.val + k
      rw [if_pos h]
      omega)
    rw [e]
  · rw [if_neg fun e => h ((hm l).1 e), right_apply v b1 b2 b3 r l (hd l h) (by have := hd l h; omega)]
    have e : other k l = ⟨l.val - k, (Nat.sub_le _ _).trans_lt l.isLt⟩ := Fin.ext (if_neg h)
    rw [e]

end Step

/-! ### The bits of a lane's number -/

/-- The kernel's test of a lane number's bit 1, as a statement on numbers. -/
theorem mask_one : ∀ l : Fin 1024, (IntOp.cmpi .eq (IntOp.andi (BitVec.ofNat 32 l.val) 1#32) 0#32 = 1) ↔ l.val / 1 % 2 = 0 := by
  decide +kernel
/-- The kernel's test of a lane number's bit 2, as a statement on numbers. -/
theorem mask_two : ∀ l : Fin 1024, (IntOp.cmpi .eq (IntOp.andi (BitVec.ofNat 32 l.val) 2#32) 0#32 = 1) ↔ l.val / 2 % 2 = 0 := by
  decide +kernel
/-- The kernel's test of a lane number's bit 4, as a statement on numbers. -/
theorem mask_four : ∀ l : Fin 1024, (IntOp.cmpi .eq (IntOp.andi (BitVec.ofNat 32 l.val) 4#32) 0#32 = 1) ↔ l.val / 4 % 2 = 0 := by
  decide +kernel
/-- The kernel's test of a lane number's bit 8, as a statement on numbers. -/
theorem mask_eight : ∀ l : Fin 1024, (IntOp.cmpi .eq (IntOp.andi (BitVec.ofNat 32 l.val) 8#32) 0#32 = 1) ↔ l.val / 8 % 2 = 0 := by
  decide +kernel
/-- The kernel's test of a lane number's bit 16, as a statement on numbers. -/
theorem mask_sixteen : ∀ l : Fin 1024, (IntOp.cmpi .eq (IntOp.andi (BitVec.ofNat 32 l.val) 16#32) 0#32 = 1) ↔ l.val / 16 % 2 = 0 := by
  decide +kernel

/-- The step of one. -/
def stepOne (lane : IVec S256x1024 32) (v : FVec Ideal S256x1024 .f32) : FVec Ideal S256x1024 .f32 :=
  maximumf v (select (cmpi .eq (andi lane (broadcast S256x1024 1#32)) (broadcast S256x1024 0#32))
    (concatenate S256x1024 1 [⟨S256x1023, extractStridedSlice S256x1023 ![0, 1] v slices_S256x1024_o0_1_S256x1023⟩,
      ⟨S256x1, extractStridedSlice S256x1 ![0, 0] v slices_S256x1024_o0_0_S256x1⟩] concatenates_S256x1023_S256x1_S256x1024_d1)
    (concatenate S256x1024 1 [⟨S256x1, extractStridedSlice S256x1 ![0, 1023] v slices_S256x1024_o0_1023_S256x1⟩,
      ⟨S256x1023, extractStridedSlice S256x1023 ![0, 0] v slices_S256x1024_o0_0_S256x1023⟩] concatenates_S256x1_S256x1023_S256x1024_d1))

/-- The exchange at distance 1: a lane keeps the greater of its value and its partner's. -/
theorem stepOne_apply (lane : IVec S256x1024 32) (v : FVec Ideal S256x1024 .f32)
    (hlane : ∀ (r : Fin 256) (l : Fin 1024), lane (ix2 r l) = BitVec.ofNat 32 l.val) (r : Fin 256) (l : Fin 1024) :
    stepOne lane v (ix2 r l) = (max (v (ix2 r l)) (v (ix2 r (other 1 l))) : EReal) :=
  step_apply v _ _ _ _ _ _ lane 1#32 (by decide) (by decide) mask_one (fun l _ => by have := l.isLt; omega)
    (fun l _ => by omega) hlane r l

/-- The step of two. -/
def stepTwo (lane : IVec S256x1024 32) (v : FVec Ideal S256x1024 .f32) : FVec Ideal S256x1024 .f32 :=
  maximumf v (select (cmpi .eq (andi lane (broadcast S256x1024 2#32)) (broadcast S256x1024 0#32))
    (concatenate S256x1024 1 [⟨S256x1022, extractStridedSlice S256x1022 ![0, 2] v slices_S256x1024_o0_2_S256x1022⟩,
      ⟨S256x2, extractStridedSlice S256x2 ![0, 0] v slices_S256x1024_o0_0_S256x2⟩] concatenates_S256x1022_S256x2_S256x1024_d1)
    (concatenate S256x1024 1 [⟨S256x2, extractStridedSlice S256x2 ![0, 1022] v slices_S256x1024_o0_1022_S256x2⟩,
      ⟨S256x1022, extractStridedSlice S256x1022 ![0, 0] v slices_S256x1024_o0_0_S256x1022⟩] concatenates_S256x2_S256x1022_S256x1024_d1))

/-- The exchange at distance 2: a lane keeps the greater of its value and its partner's. -/
theorem stepTwo_apply (lane : IVec S256x1024 32) (v : FVec Ideal S256x1024 .f32)
    (hlane : ∀ (r : Fin 256) (l : Fin 1024), lane (ix2 r l) = BitVec.ofNat 32 l.val) (r : Fin 256) (l : Fin 1024) :
    stepTwo lane v (ix2 r l) = (max (v (ix2 r l)) (v (ix2 r (other 2 l))) : EReal) :=
  step_apply v _ _ _ _ _ _ lane 2#32 (by decide) (by decide) mask_two (fun l _ => by have := l.isLt; omega)
    (fun l _ => by omega) hlane r l

/-- The step of four. -/
def stepFour (lane : IVec S256x1024 32) (v : FVec Ideal S256x1024 .f32) : FVec Ideal S256x1024 .f32 :=
  maximumf v (select (cmpi .eq (andi lane (broadcast S256x1024 4#32)) (broadcast S256x1024 0#32))
    (concatenate S256x1024 1 [⟨S256x1020, extractStridedSlice S256x1020 ![0, 4] v slices_S256x1024_o0_4_S256x1020⟩,
      ⟨S256x4, extractStridedSlice S256x4 ![0, 0] v slices_S256x1024_o0_0_S256x4⟩] concatenates_S256x1020_S256x4_S256x1024_d1)
    (concatenate S256x1024 1 [⟨S256x4, extractStridedSlice S256x4 ![0, 1020] v slices_S256x1024_o0_1020_S256x4⟩,
      ⟨S256x1020, extractStridedSlice S256x1020 ![0, 0] v slices_S256x1024_o0_0_S256x1020⟩] concatenates_S256x4_S256x1020_S256x1024_d1))

/-- The exchange at distance 4: a lane keeps the greater of its value and its partner's. -/
theorem stepFour_apply (lane : IVec S256x1024 32) (v : FVec Ideal S256x1024 .f32)
    (hlane : ∀ (r : Fin 256) (l : Fin 1024), lane (ix2 r l) = BitVec.ofNat 32 l.val) (r : Fin 256) (l : Fin 1024) :
    stepFour lane v (ix2 r l) = (max (v (ix2 r l)) (v (ix2 r (other 4 l))) : EReal) :=
  step_apply v _ _ _ _ _ _ lane 4#32 (by decide) (by decide) mask_four (fun l _ => by have := l.isLt; omega)
    (fun l _ => by omega) hlane r l

/-- The step of eight. -/
def stepEight (lane : IVec S256x1024 32) (v : FVec Ideal S256x1024 .f32) : FVec Ideal S256x1024 .f32 :=
  maximumf v (select (cmpi .eq (andi lane (broadcast S256x1024 8#32)) (broadcast S256x1024 0#32))
    (concatenate S256x1024 1 [⟨S256x1016, extractStridedSlice S256x1016 ![0, 8] v slices_S256x1024_o0_8_S256x1016⟩,
      ⟨S256x8, extractStridedSlice S256x8 ![0, 0] v slices_S256x1024_o0_0_S256x8⟩] concatenates_S256x1016_S256x8_S256x1024_d1)
    (concatenate S256x1024 1 [⟨S256x8, extractStridedSlice S256x8 ![0, 1016] v slices_S256x1024_o0_1016_S256x8⟩,
      ⟨S256x1016, extractStridedSlice S256x1016 ![0, 0] v slices_S256x1024_o0_0_S256x1016⟩] concatenates_S256x8_S256x1016_S256x1024_d1))

/-- The exchange at distance 8: a lane keeps the greater of its value and its partner's. -/
theorem stepEight_apply (lane : IVec S256x1024 32) (v : FVec Ideal S256x1024 .f32)
    (hlane : ∀ (r : Fin 256) (l : Fin 1024), lane (ix2 r l) = BitVec.ofNat 32 l.val) (r : Fin 256) (l : Fin 1024) :
    stepEight lane v (ix2 r l) = (max (v (ix2 r l)) (v (ix2 r (other 8 l))) : EReal) :=
  step_apply v _ _ _ _ _ _ lane 8#32 (by decide) (by decide) mask_eight (fun l _ => by have := l.isLt; omega)
    (fun l _ => by omega) hlane r l

/-- The step of sixteen. -/
def stepSixteen (lane : IVec S256x1024 32) (v : FVec Ideal S256x1024 .f32) : FVec Ideal S256x1024 .f32 :=
  maximumf v (select (cmpi .eq (andi lane (broadcast S256x1024 16#32)) (broadcast S256x1024 0#32))
    (concatenate S256x1024 1 [⟨S256x1008, extractStridedSlice S256x1008 ![0, 16] v slices_S256x1024_o0_16_S256x1008⟩,
      ⟨S256x16, extractStridedSlice S256x16 ![0, 0] v slices_S256x1024_o0_0_S256x16⟩] concatenates_S256x1008_S256x16_S256x1024_d1)
    (concatenate S256x1024 1 [⟨S256x16, extractStridedSlice S256x16 ![0, 1008] v slices_S256x1024_o0_1008_S256x16⟩,
      ⟨S256x1008, extractStridedSlice S256x1008 ![0, 0] v slices_S256x1024_o0_0_S256x1008⟩] concatenates_S256x16_S256x1008_S256x1024_d1))

/-- The exchange at distance 16: a lane keeps the greater of its value and its partner's. -/
theorem stepSixteen_apply (lane : IVec S256x1024 32) (v : FVec Ideal S256x1024 .f32)
    (hlane : ∀ (r : Fin 256) (l : Fin 1024), lane (ix2 r l) = BitVec.ofNat 32 l.val) (r : Fin 256) (l : Fin 1024) :
    stepSixteen lane v (ix2 r l) = (max (v (ix2 r l)) (v (ix2 r (other 16 l))) : EReal) :=
  step_apply v _ _ _ _ _ _ lane 16#32 (by decide) (by decide) mask_sixteen (fun l _ => by have := l.isLt; omega)
    (fun l _ => by omega) hlane r l

/-- After the five steps each lane holds its group's greatest value. -/
theorem steps_max (lane : IVec S256x1024 32) (v : FVec Ideal S256x1024 .f32)
    (hlane : ∀ (r : Fin 256) (l : Fin 1024), lane (ix2 r l) = BitVec.ofNat 32 l.val) (r : Fin 256) :
    BlockMax 32 (fun l => v (ix2 r l))
      (fun l => stepSixteen lane (stepEight lane (stepFour lane (stepTwo lane (stepOne lane v)))) (ix2 r l)) := by
  have h1 := (blockMax_one fun l => (v (ix2 r l) : EReal)).double other_one
  simp only [← stepOne_apply lane v hlane r] at h1
  have h2 := h1.double other_two
  simp only [← stepTwo_apply lane _ hlane r] at h2
  have h4 := h2.double other_four
  simp only [← stepFour_apply lane _ hlane r] at h4
  have h8 := h4.double other_eight
  simp only [← stepEight_apply lane _ hlane r] at h8
  have h16 := h8.double other_sixteen
  simp only [← stepSixteen_apply lane _ hlane r] at h16
  exact h16

end Cert.Body

end
-- ==== Proof.Gumbel.lean ====
/- The Gumbel noise made of a random word, over the extended reals. -/
module

public import Idealize.ShloMosaic.PureOps.Ideal.Laws
public import Idealize.ShloMosaic.Lib.IdealHost

@[expose] public section

noncomputable section

namespace Cert.Gumbel

open Idealize.ShloMosaic

/-- The least normal float32 number. -/
def tiny : EReal := Ideal.ofBits .f32 0x00800000#32

/-- The number in the unit interval that a word's upper 23 bits stand for: they are the fraction of a float32 number between 1
    and 2, of which 1 is taken off. -/
def frac (w : BitVec 32) : EReal := Ideal.ofBits .f32 (w >>> (9#32 : BitVec 32) ||| 1065353216#32) - 1

/-- The noise of a word. -/
def noise (w : BitVec 32) : EReal := -Ideal.log (-Ideal.log (max tiny (frac w + tiny)))

/-- A uniform number first bounded below by zero and then by `t`, after `t` was added, is the number plus `t` bounded below by
    `t`. -/
theorem max_max_add (f t : EReal) : max t (max 0 f + t) = max t (f + t) := by
  rw [← max_add_add_right, zero_add, ← max_assoc, max_self]

end Cert.Gumbel

end
-- ==== Proof.Pick.lean ====
/- The first of the greatest among thirty-two extended reals, and two ways to find it. -/
module

public import Mathlib.Data.EReal.Operations
public import Mathlib.Algebra.BigOperators.Fin
public import Mathlib.Algebra.BigOperators.Ring.Finset

@[expose] public section

noncomputable section

namespace Cert.Pick

/-- `k` is the first position of the greatest value of `f`. -/
def First (f : Fin 32 → EReal) (k : Fin 32) : Prop := (∀ j, f j ≤ f k) ∧ ∀ j, f j = f k → k ≤ j

open Classical in
/-- The one-hot number of the first greatest value. -/
def hot (f : Fin 32 → EReal) (k : Fin 32) : EReal := if First f k then 1 else 0

/-- There is at most one first position. -/
theorem First.unique {f : Fin 32 → EReal} {k l : Fin 32} (hk : First f k) (hl : First f l) : k = l := by
  have e : f k = f l := le_antisymm (hl.1 k) (hk.1 l)
  exact le_antisymm (hk.2 l e.symm) (hl.2 k e)

/-- Adding a real number to an extended real keeps the order both ways. -/
theorem add_real_le_iff (a b : EReal) (c : ℝ) : a + (c : EReal) ≤ b + (c : EReal) ↔ a ≤ b := by
  refine ⟨fun h => ?_, fun h => add_le_add_left h _⟩
  have h' := add_le_add_left h ((-c : ℝ) : EReal)
  rwa [add_assoc, add_assoc, ← EReal.coe_add, add_neg_cancel, EReal.coe_zero, add_zero, add_zero] at h'

/-- Adding one real number to all values does not move the first greatest. -/
theorem first_add_real (f : Fin 32 → EReal) (c : ℝ) (k : Fin 32) : First (fun j => f j + (c : EReal)) k ↔ First f k := by
  unfold First
  have he : ∀ a b : EReal, a + (c : EReal) = b + (c : EReal) ↔ a = b := fun a b =>
    ⟨fun h => le_antisymm ((add_real_le_iff a b c).1 h.le) ((add_real_le_iff b a c).1 h.ge), fun h => by rw [h]⟩
  simp only [add_real_le_iff, he]

open Classical in
/-- Adding one real number to every value leaves the one-hot numbers as they are. -/
theorem hot_add_real (f : Fin 32 → EReal) (c : ℝ) : hot (fun j => f j + (c : EReal)) = hot f := by
  funext k
  exact if_congr (first_add_real f c k) rfl rfl

/-! ### By counting -/

open Classical in
/-- A position is the first greatest exactly when its value is the greatest and it is the only one, among the positions up
    to it, of which this is so: the count being a sum of ones over the extended reals. -/
theorem first_iff_count (f : Fin 32 → EReal) (M : EReal) (hM : IsGreatest (Set.range f) M) (k : Fin 32) :
    (f k = M ∧ (∑ j : Fin 32, if f j = M ∧ j ≤ k then (1 : EReal) else 0) = 1) ↔ First f k := by
  obtain ⟨⟨j0, hj0⟩, hu⟩ := hM
  have hle : ∀ j, f j ≤ M := fun j => hu ⟨j, rfl⟩
  have hs : (∑ j : Fin 32, if f j = M ∧ j ≤ k then (1 : EReal) else 0)
      = (((Finset.univ.filter fun j : Fin 32 => f j = M ∧ j ≤ k).card : ℕ) : EReal) := by
    rw [Finset.sum_ite, Finset.sum_const_zero, add_zero, Finset.sum_const, nsmul_one]
  rw [hs]
  have hc : ∀ n : ℕ, ((n : ℕ) : EReal) = 1 ↔ n = 1 := fun n => by
    rw [← Nat.cast_one]; exact Nat.cast_inj
  rw [hc]
  constructor
  · rintro ⟨hk, h1⟩
    refine ⟨fun j => (hle j).trans hk.ge, fun j hj => ?_⟩
    by_contra hlt
    have hmj : j ∈ Finset.univ.filter fun j : Fin 32 => f j = M ∧ j ≤ k := by simpa using ⟨hj.trans hk, (not_le.1 hlt).le⟩
    have hmk : k ∈ Finset.univ.filter fun j : Fin 32 => f j = M ∧ j ≤ k := by simpa using hk
    exact hlt (Finset.card_le_one.1 h1.le _ hmk _ hmj).le
  · rintro ⟨h1, h2⟩
    have hk : f k = M := le_antisymm (hle k) (hj0 ▸ h1 j0)
    refine ⟨hk, Finset.card_eq_one.2 ⟨k, ?_⟩⟩
    ext j
    simp only [Finset.mem_filter, Finset.mem_univ, true_and, Finset.mem_singleton]
    exact ⟨fun ⟨hj, hjk⟩ => le_antisymm hjk (h2 j (hj.trans hk.symm)), fun h => by subst h; exact ⟨hk, le_rfl⟩⟩

/-! ### By folding -/

/-- `p` is at least as good as `q`: its value is greater, or the same and its position no later. -/
def Good (p q : EReal × BitVec 32) : Prop := q.1 < p.1 ∨ (q.1 = p.1 ∧ p.2.toInt ≤ q.2.toInt)

/-- A pair is as good as itself. -/
theorem Good.refl (p : EReal × BitVec 32) : Good p p := Or.inr ⟨rfl, le_rfl⟩

/-- Goodness passes on. -/
theorem Good.trans {p q r : EReal × BitVec 32} (h : Good p q) (h' : Good q r) : Good p r := by
  rcases h with h | ⟨h, g⟩ <;> rcases h' with h' | ⟨h', g'⟩
  · exact Or.inl (h'.trans h)
  · exact Or.inl (h'.trans_lt h)
  · exact Or.inl (h'.trans_eq h)
  · exact Or.inr ⟨h'.trans h, g.trans g'⟩

/-- A fold that takes, of two pairs, one that is as good as both, ends with a pair as good as all. -/
theorem foldl_good (op : EReal × BitVec 32 → EReal × BitVec 32 → EReal × BitVec 32)
    (hop : ∀ a b, (op a b = a ∨ op a b = b) ∧ Good (op a b) a ∧ Good (op a b) b) (l : List (EReal × BitVec 32)) :
    ∀ a, (l.foldl op a = a ∨ l.foldl op a ∈ l) ∧ Good (l.foldl op a) a ∧ ∀ q ∈ l, Good (l.foldl op a) q := by
  induction l with
  | nil => exact fun a => ⟨Or.inl rfl, Good.refl a, by simp⟩
  | cons b l ih =>
    intro a
    obtain ⟨h1, h2, h3⟩ := ih (op a b)
    obtain ⟨g1, g2, g3⟩ := hop a b
    rw [List.foldl_cons]
    refine ⟨?_, h2.trans g2, fun q hq => ?_⟩
    · rcases h1 with h1 | h1
      · rw [h1]
        rcases g1 with g1 | g1
        · exact Or.inl g1
        · exact Or.inr (by rw [g1]; exact List.mem_cons_self)
      · exact Or.inr (List.mem_cons_of_mem _ h1)
    · rcases List.mem_cons.1 hq with rfl | hq
      · exact h2.trans g3
      · exact h3 q hq

/-- The signed reading of a small number's word. -/
theorem toInt_small (k : Fin 32) : (BitVec.ofNat 32 k.val).toInt = k.val := by
  rw [BitVec.toInt_eq_toNat_cond, BitVec.toNat_ofNat]
  have := k.isLt
  omega

/-- Such a fold, from minus infinity at position zero over the values of `f` with their positions, ends at the first greatest. -/
theorem foldl_first (op : EReal × BitVec 32 → EReal × BitVec 32 → EReal × BitVec 32)
    (hop : ∀ a b, (op a b = a ∨ op a b = b) ∧ Good (op a b) a ∧ Good (op a b) b) (l : List (EReal × BitVec 32))
    (f : Fin 32 → EReal) (hl : ∀ p, p ∈ l ↔ ∃ k : Fin 32, p = (f k, BitVec.ofNat 32 k.val)) :
    ∃ k, First f k ∧ (l.foldl op (⊥, 0#32)).2 = BitVec.ofNat 32 k.val := by
  obtain ⟨h1, -, h3⟩ := foldl_good op hop l (⊥, 0#32)
  have h3' : ∀ j : Fin 32, Good (l.foldl op (⊥, 0#32)) (f j, BitVec.ofNat 32 j.val) := fun j => h3 _ ((hl _).2 ⟨j, rfl⟩)
  generalize l.foldl op (⊥, 0#32) = p at *
  have key : ∃ k : Fin 32, p = (f k, BitVec.ofNat 32 k.val) := by
    rcases h1 with h1 | h1
    · refine ⟨0, ?_⟩
      rcases h3' 0 with h | ⟨h, -⟩
      · rw [h1] at h; exact absurd h not_lt_bot
      · rw [h1] at h ⊢
        exact Prod.ext h.symm rfl
    · exact (hl _).1 h1
  obtain ⟨k, rfl⟩ := key
  refine ⟨k, ⟨fun j => ?_, fun j hj => ?_⟩, rfl⟩
  · rcases h3' j with h | ⟨h, -⟩
    · exact h.le
    · exact h.le
  · rcases h3' j with h | ⟨-, h⟩
    · exact absurd hj h.ne
    · simp only [toInt_small] at h
      exact_mod_cast h

end Cert.Pick

end
-- ==== Proof.Soft.lean ====
/- Softmax mixed with the uniform distribution, over the real numbers, and its logarithm. -/
module

public import proofs.«01_k».proof.Proof.Gumbel
public import proofs.«01_k».proof.Proof.Pick

@[expose] public section

noncomputable section

namespace Cert.Soft

open Idealize.ShloMosaic

/-- The float32 number nearest 0.01. -/
def mix : ℝ := 10737418 * (2 : ℝ) ^ (-30 : ℤ)

/-- The float32 number nearest 0.99. -/
def scale : ℝ := 16609444 * (2 : ℝ) ^ (-24 : ℤ)

/-- The share of the uniform distribution is positive. -/
theorem mix_pos : 0 < mix := by unfold mix; positivity
/-- The share of the softmax is positive. -/
theorem scale_pos : 0 < scale := by unfold scale; positivity

/-- The float32 word of the uniform distribution's share, as a real number. -/
theorem ofBits_mix : Ideal.ofBits .f32 0x3C23D70A#32 = (mix : EReal) := by
  simp [Ideal.ofBits, Ideal.ieee, mix]

/-- The float32 word of the softmax's share, as a real number. -/
theorem ofBits_scale : Ideal.ofBits .f32 0x3F7D70A4#32 = (scale : EReal) := by
  simp [Ideal.ofBits, Ideal.ieee, scale]

/-- The thirty-second part of the first is a float32 number too. -/
theorem ofBits_mix32 : Ideal.ofBits .f32 0x39A3D70A#32 = ((mix / 32 : ℝ) : EReal) := by
  simp [Ideal.ofBits, Ideal.ieee, mix]
  rw [← EReal.coe_mul]
  norm_num

/-- The float32 word of the number of classes. -/
theorem ofBits_32 : Ideal.ofBits .f32 0x42000000#32 = ((32 : ℝ) : EReal) := by
  simp [Ideal.ofBits, Ideal.ieee]
  rw [← EReal.coe_mul]
  norm_num

/-- The float32 word of minus infinity. -/
theorem ofBits_bot : Ideal.ofBits .f32 0xFF800000#32 = (⊥ : EReal) := by
  simp [Ideal.ofBits, Ideal.ieee]

/-- A sum of real numbers among the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The sum of the exponentials of a group. -/
def total (x : Fin 32 → ℝ) : ℝ := ∑ k, Real.exp (x k)

/-- A total is positive. -/
theorem total_pos (x : Fin 32 → ℝ) : 0 < total x := Finset.sum_pos (fun k _ => Real.exp_pos _) ⟨0, Finset.mem_univ _⟩

/-- The probability of a group's member. -/
def prob (x : Fin 32 → ℝ) (k : Fin 32) : ℝ := mix / 32 + scale * (Real.exp (x k) / total x)

/-- A mixed probability is positive. -/
theorem prob_pos (x : Fin 32 → ℝ) (k : Fin 32) : 0 < prob x k :=
  add_pos (div_pos mix_pos (by norm_num)) (mul_pos scale_pos (div_pos (Real.exp_pos _) (total_pos x)))

/-- Softmax does not see one real number taken off all members. -/
theorem softmax_sub (x : Fin 32 → ℝ) (M : ℝ) (k : Fin 32) :
    Real.exp (x k - M) / ∑ j, Real.exp (x j - M) = Real.exp (x k) / total x := by
  have h : ∀ j, Real.exp (x j - M) = Real.exp (-M) * Real.exp (x j) := fun j => by
    rw [← Real.exp_add]; congr 1; ring
  simp only [h, total, ← Finset.mul_sum]
  rw [mul_div_mul_left _ _ (Real.exp_ne_zero _)]

/-- The logarithm of the probability times the group's total. -/
theorem log_total (x : Fin 32 → ℝ) (k : Fin 32) :
    Real.log (mix / 32 * total x + scale * Real.exp (x k)) = Real.log (prob x k) + Real.log (total x) := by
  rw [← Real.log_mul (prob_pos x k).ne' (total_pos x).ne']
  congr 1
  unfold prob
  field_simp [(total_pos x).ne']

/-- The logarithm of a positive real number among the extended reals. -/
theorem log_pos {r : ℝ} (h : 0 < r) : Ideal.log (r : EReal) = (Real.log r : EReal) := if_neg (not_le.2 h)

/-- The quotient of real numbers among the extended reals. -/
theorem div_real (a : ℝ) {b : ℝ} (h : b ≠ 0) : Ideal.div (a : EReal) (b : EReal) = ((a / b : ℝ) : EReal) := by
  unfold Ideal.div
  rw [if_neg (by exact_mod_cast h), div_eq_mul_inv, EReal.coe_mul, EReal.coe_inv]

/-- The greatest of thirty-two real numbers, folded from minus infinity, is a real number. -/
theorem fold_max_real (x : Fin 32 → ℝ) :
    ∃ M : ℝ, (Finset.univ : Finset (Fin 32)).fold max (⊥ : EReal) (fun k => (x k : EReal)) = (M : EReal) := by
  obtain ⟨k, -, hk⟩ := Finset.exists_mem_eq_sup (Finset.univ : Finset (Fin 32)) ⟨0, Finset.mem_univ _⟩ (fun k => (x k : EReal))
  exact ⟨x k, hk⟩

/-- What a group's member is chosen by: the noise of its word and the logarithm of its probability. -/
def score (w : Fin 32 → BitVec 32) (x : Fin 32 → ℝ) (k : Fin 32) : EReal := Gumbel.noise (w k) + (Real.log (prob x k) : EReal)

end Cert.Soft

end
-- ==== Proof.Payload.lean ====
/- The kernel's float payloads over the extended reals, read at an index of a block of real logits. -/
module

public import proofs.«01_k».proof.Proof.KernelBits
public import proofs.«01_k».proof.Proof.Butterfly
public import proofs.«01_k».proof.Proof.Soft
public import Idealize.ShloMosaic.Lib.MatmulPlain

@[expose] public section

set_option maxRecDepth 16384

noncomputable section

namespace Cert.Body

open Cert.KernelIdeal Cert.KernelIdeal.Gen Cert.Soft
open Idealize.ShloMosaic Idealize.ShloMosaic.ValueIdx Idealize.SL.Sem

/-- Lane `k` of group `g`. -/
def lane (g k : Fin 32) : Fin 1024 := ⟨32 * g.val + k.val, by have := g.isLt; have := k.isLt; omega⟩

/-- A lane's group and its position there. -/
def groupOf (l : Fin 1024) : Fin 32 := ⟨l.val / 32, by have := l.isLt; omega⟩
/-- A lane's place in its group. -/
def placeOf (l : Fin 1024) : Fin 32 := ⟨l.val % 32, by omega⟩

/-- A lane from its group and its place. -/
theorem lane_groupOf (l : Fin 1024) : lane (groupOf l) (placeOf l) = l := Fin.ext (Nat.div_add_mod _ _)
/-- The group of a lane, by division. -/
theorem lane_div (g k : Fin 32) : (lane g k).val / 32 = g.val := by
  have := k.isLt
  show (32 * g.val + k.val) / 32 = g.val
  omega
/-- The group of a lane named by group and place. -/
theorem groupOf_lane (g k : Fin 32) : groupOf (lane g k) = g := Fin.ext (lane_div g k)

/-- Lanes as pairs of a group and a position. -/
def lanes : Fin 32 × Fin 32 ≃ Fin 1024 where
  toFun p := lane p.1 p.2
  invFun l := (groupOf l, placeOf l)
  left_inv p := by
    refine Prod.ext (groupOf_lane p.1 p.2) (Fin.ext ?_)
    have := p.2.isLt
    show (32 * p.1.val + p.2.val) % 32 = p.2.val
    omega
  right_inv l := lane_groupOf l

/-- A sum over the lanes of one group only. -/
theorem sum_group (h : Fin 1024 → EReal) (g : Fin 32) :
    (∑ l : Fin 1024, if l.val / 32 = g.val then h l else 0) = ∑ k, h (lane g k) := by
  rw [← Equiv.sum_comp lanes, Fintype.sum_prod_type, Finset.sum_eq_single g]
  · refine Finset.sum_congr rfl fun k _ => ?_
    exact if_pos (lane_div g k)
  · intro g' _ hg
    refine Finset.sum_eq_zero fun k _ => ?_
    exact if_neg fun e => hg (Fin.ext ((lane_div g' k).symm.trans e))
  · intro hg
    exact absurd (Finset.mem_univ _) hg

/-! ### The three products with the kernel's matrices -/

/-- The zero accumulator. -/
theorem zero_acc {s : Shape} (j : s.Idx) : (constant (F := Ideal) s .f32 0x00000000#32 j : EReal) = 0 := Ideal.ofBits_zero_f32

/-- A product with the summing matrix. -/
theorem sums_product (e : FVec Ideal S256x1024 .bf16) (m : FVec Ideal S1024x32 .bf16)
    (hm : ∀ i, m i = (if (i 0).val / 32 = (i 1).val then 1 else 0 : EReal)) (r : Fin 256) (g : Fin 32) :
    matmul dot_S256x1024_S1024x32_S256x32_1_0_0_1_n_n none e m (constant S256x32 .f32 0x00000000#32) (ix2 r g)
      = (∑ k, e (ix2 r (lane g k)) : EReal) := by
  refine (Ideal.matmul_plain_apply none e m (constant S256x32 .f32 0x00000000#32) r g).trans ?_
  rw [zero_acc, zero_add, ← sum_group (fun l => e (ix2 r l)) g]
  refine Finset.sum_congr rfl fun l _ => ?_
  rw [hm]
  show (e (ix2 r l) * (if l.val / 32 = g.val then 1 else 0) : EReal) = _
  split
  · exact mul_one _
  · exact mul_zero _

/-- A product with the copying matrix. -/
theorem copies_product (e : FVec Ideal S256x32 .bf16) (m : FVec Ideal S32x1024 .bf16)
    (hm : ∀ i, m i = (if (i 0).val = (i 1).val / 32 then 1 else 0 : EReal)) (r : Fin 256) (l : Fin 1024) :
    matmul dot_S256x32_S32x1024_S256x1024_1_0_0_1_n_n none e m (constant S256x1024 .f32 0x00000000#32) (ix2 r l)
      = e (ix2 r (groupOf l)) := by
  refine (Ideal.matmul_plain_apply none e m (constant S256x1024 .f32 0x00000000#32) r l).trans ?_
  rw [zero_acc, zero_add, Finset.sum_eq_single (groupOf l)]
  · rw [hm]
    show (e (ix2 r (groupOf l)) * (if l.val / 32 = l.val / 32 then 1 else 0) : EReal) = _
    rw [if_pos rfl, mul_one]
  · intro g _ hg
    rw [hm]
    show (e (ix2 r g) * (if g.val = l.val / 32 then 1 else 0) : EReal) = 0
    rw [if_neg (show ¬ g.val = l.val / 32 from fun e => hg (Fin.ext e)), mul_zero]
  · intro hg
    exact absurd (Finset.mem_univ _) hg

/-- A product with the counting matrix. -/
theorem counts_product (e : FVec Ideal S256x1024 .bf16) (m : FVec Ideal S1024x1024 .bf16)
    (hm : ∀ i, m i = (if (i 0).val / 32 = (i 1).val / 32 ∧ (i 0).val ≤ (i 1).val then 1 else 0 : EReal)) (r : Fin 256) (g k : Fin 32) :
    matmul dot_S256x1024_S1024x1024_S256x1024_1_0_0_1_n_n none e m (constant S256x1024 .f32 0x00000000#32) (ix2 r (lane g k))
      = (∑ j : Fin 32, if j ≤ k then e (ix2 r (lane g j)) else 0 : EReal) := by
  refine (Ideal.matmul_plain_apply none e m (constant S256x1024 .f32 0x00000000#32) r (lane g k)).trans ?_
  have hs := sum_group (fun l => if l.val ≤ (lane g k).val then (e (ix2 r l) : EReal) else 0) g
  have hj : ∀ j : Fin 32, ((lane g j).val ≤ (lane g k).val) = (j ≤ k) := fun j => by
    apply propext
    show 32 * g.val + j.val ≤ 32 * g.val + k.val ↔ j.val ≤ k.val
    omega
  simp only [hj] at hs
  rw [zero_acc, zero_add, ← hs]
  refine Finset.sum_congr rfl fun l _ => ?_
  rw [hm]
  show (e (ix2 r l) * (if l.val / 32 = (lane g k).val / 32 ∧ l.val ≤ (lane g k).val then 1 else 0) : EReal) = _
  rw [lane_div]
  by_cases h1 : l.val / 32 = g.val <;> by_cases h2 : l.val ≤ (lane g k).val <;> simp [h1, h2]

/-! ### A product in three parts -/

/-- What rounding an array leaves over: nothing, unless it is infinite. -/
def rest {s : Shape} (v : FVec Ideal s .f32) : FVec Ideal s .f32 := fun i => (v i - v i : EReal)

/-- A real number less itself is zero. -/
theorem rest_real {s : Shape} {v : FVec Ideal s .f32} {i : s.Idx} {x : ℝ} (h : v i = (x : EReal)) : rest v i = ((0 : ℝ) : EReal) := by
  show (v i - v i : EReal) = _
  rw [h, ← EReal.coe_sub, sub_self]

/-- The products with an array's three parts, added. -/
def inParts {sl sr so : Shape} (d : DotDims sl sr so) (v : FVec Ideal sl .f32) (m : FVec Ideal sr .bf16) : FVec Ideal so .f32 :=
  addf (addf (matmul d none (truncf .bf16 v bitsLt_bf16_f32) m (constant so .f32 0x00000000#32))
    (matmul d none (truncf .bf16 (rest v) bitsLt_bf16_f32) m (constant so .f32 0x00000000#32)))
    (matmul d none (truncf .bf16 (rest (rest v)) bitsLt_bf16_f32) m (constant so .f32 0x00000000#32))

/-- The sums of a row of real numbers. -/
theorem inParts_sums (v : FVec Ideal S256x1024 .f32) (m : FVec Ideal S1024x32 .bf16)
    (hm : ∀ i, m i = (if (i 0).val / 32 = (i 1).val then 1 else 0 : EReal)) (r : Fin 256) (x : Fin 1024 → ℝ)
    (hv : ∀ l, v (ix2 r l) = (x l : EReal)) (g : Fin 32) :
    inParts dot_S256x1024_S1024x32_S256x32_1_0_0_1_n_n v m (ix2 r g) = ((∑ k, x (lane g k) : ℝ) : EReal) := by
  have h1 := sums_product (truncf .bf16 v bitsLt_bf16_f32) m hm r g
  have h2 := sums_product (truncf .bf16 (rest v) bitsLt_bf16_f32) m hm r g
  have h3 := sums_product (truncf .bf16 (rest (rest v)) bitsLt_bf16_f32) m hm r g
  have e2 : ∀ l, rest v (ix2 r l) = ((0 : ℝ) : EReal) := fun l => rest_real (hv l)
  have e3 : ∀ l, rest (rest v) (ix2 r l) = ((0 : ℝ) : EReal) := fun l => rest_real (e2 l)
  refine (congrArg₂ (· + ·) (congrArg₂ (· + ·) (h1.trans (Finset.sum_congr rfl fun k _ => hv (lane g k)))
    (h2.trans (Finset.sum_congr rfl fun k _ => e2 (lane g k)))) (h3.trans (Finset.sum_congr rfl fun k _ => e3 (lane g k)))).trans ?_
  simp only [EReal.coe_zero, Finset.sum_const_zero, add_zero]
  exact (coe_sum _ _).symm

/-- The copies of a row of real numbers. -/
theorem inParts_copies (v : FVec Ideal S256x32 .f32) (m : FVec Ideal S32x1024 .bf16)
    (hm : ∀ i, m i = (if (i 0).val = (i 1).val / 32 then 1 else 0 : EReal)) (r : Fin 256) (x : Fin 32 → ℝ)
    (hv : ∀ g, v (ix2 r g) = (x g : EReal)) (l : Fin 1024) :
    inParts dot_S256x32_S32x1024_S256x1024_1_0_0_1_n_n v m (ix2 r l) = (x (groupOf l) : EReal) := by
  have h1 := copies_product (truncf .bf16 v bitsLt_bf16_f32) m hm r l
  have h2 := copies_product (truncf .bf16 (rest v) bitsLt_bf16_f32) m hm r l
  have h3 := copies_product (truncf .bf16 (rest (rest v)) bitsLt_bf16_f32) m hm r l
  have e2 : ∀ g, rest v (ix2 r g) = ((0 : ℝ) : EReal) := fun g => rest_real (hv g)
  have e3 : ∀ g, rest (rest v) (ix2 r g) = ((0 : ℝ) : EReal) := fun g => rest_real (e2 g)
  refine (congrArg₂ (· + ·) (congrArg₂ (· + ·) (h1.trans (hv _)) (h2.trans (e2 _))) (h3.trans (e3 _))).trans ?_
  simp only [EReal.coe_zero, add_zero]

/-- The logarithm of the mixed probability, up to the group's own constant. -/
theorem logits_apply (x : FVec Ideal S256x1024 .f32) (m : FVec Ideal S1024x32 .bf16) (m' : FVec Ideal S32x1024 .bf16)
    (hm : ∀ i, m i = (if (i 0).val / 32 = (i 1).val then 1 else 0 : EReal))
    (hm' : ∀ i, m' i = (if (i 0).val = (i 1).val / 32 then 1 else 0 : EReal)) (r : Fin 256) (X : Fin 1024 → ℝ)
    (hx : ∀ l, x (ix2 r l) = (X l : EReal)) (g k : Fin 32) :
    k0_pay9 (F := Ideal) x m m' (ix2 r (lane g k))
      = ((Real.log (prob (fun k => X (lane g k)) k) + Real.log (total fun k => X (lane g k)) : ℝ) : EReal) := by
  have he : ∀ l, exp (F := Ideal) x (ix2 r l) = ((Real.exp (X l) : ℝ) : EReal) := fun l =>
    (show Ideal.exp (x (ix2 r l)) = _ by rw [hx]; rfl)
  have hs := inParts_sums (exp (F := Ideal) x) m hm r _ he
  have hc := inParts_copies _ m' hm' r _ hs (lane g k)
  have e : k0_pay9 (F := Ideal) x m m' (ix2 r (lane g k))
      = Ideal.log (Ideal.ofBits .f32 0x39A3D70A#32
          * inParts dot_S256x32_S32x1024_S256x1024_1_0_0_1_n_n (inParts dot_S256x1024_S1024x32_S256x32_1_0_0_1_n_n (exp (F := Ideal) x) m) m' (ix2 r (lane g k))
        + Ideal.ofBits .f32 0x3F7D70A4#32 * exp (F := Ideal) x (ix2 r (lane g k))) := rfl
  rw [e, hc, he, ofBits_mix32, ofBits_scale, groupOf_lane, ← EReal.coe_mul, ← EReal.coe_mul, ← EReal.coe_add, ← log_total]
  refine log_pos ?_
  exact add_pos (mul_pos (div_pos mix_pos (by norm_num)) (total_pos fun k => X (lane g k))) (mul_pos scale_pos (Real.exp_pos _))

/-- The noise and the logarithm of the probability. -/
theorem noisy_apply (v : FVec Ideal S256x1024 .f32) (w : IVec S256x1024 32) (i : S256x1024.Idx) :
    k0_pay47 (F := Ideal) v w i = (Gumbel.noise (w i) + v i : EReal) := by
  have h1 : (Scalar.ofBits (F := Ideal) .f32 0x3F800000#32 : EReal) = 1 := Ideal.ofBits_one_f32
  have h0 : (Scalar.ofBits (F := Ideal) .f32 0x00000000#32 : EReal) = 0 := Ideal.ofBits_zero_f32
  have e : k0_pay47 (F := Ideal) v w i
      = (((Scalar.ofBits (F := Ideal) .f32 0x00000000#32 : EReal)
          - Ideal.log ((Scalar.ofBits (F := Ideal) .f32 0x00000000#32 : EReal)
            - Ideal.log (max Gumbel.tiny
              ((Ideal.ofBits .f32 (shrui w (broadcast S256x1024 9#32) i ||| 1065353216#32) - (Scalar.ofBits (F := Ideal) .f32 0x3F800000#32 : EReal))
                * (Scalar.ofBits (F := Ideal) .f32 0x3F800000#32 : EReal) + Gumbel.tiny)))) + v i : EReal) := rfl
  have es : shrui w (broadcast S256x1024 9#32) i = w i >>> (9#32) := shr_apply w i 9#32 (by decide)
  rw [e, h0, h1, mul_one, zero_sub, zero_sub, es]
  rfl

/-! ### The greatest lane of each group -/

/-- The lanes whose value is their group's greatest. -/
def greatest (n : IVec S256x1024 32) (z : FVec Ideal S256x1024 .f32) : IVec S256x1024 1 :=
  cmpf .oeq z (stepSixteen n (stepEight n (stepFour n (stepTwo n (stepOne n z)))))

/-- One at each group's first such lane, zero elsewhere. -/
def marks (n : IVec S256x1024 32) (z : FVec Ideal S256x1024 .f32) (m : FVec Ideal S1024x1024 .bf16) : FVec Ideal S256x1024 .f32 :=
  select (andi (greatest n z)
      (cmpf .oeq (matmul dot_S256x1024_S1024x1024_S256x1024_1_0_0_1_n_n none
          (truncf .bf16 (sitofp (F := Ideal) .f32 (extui 32 (greatest n z) natLt_1_32)) bitsLt_bf16_f32) m (constant S256x1024 .f32 0x00000000#32))
        (broadcast S256x1024 (Scalar.ofBits (F := Ideal) .f32 0x3F800000#32))))
    (broadcast S256x1024 (Scalar.ofBits (F := Ideal) .f32 0x3F800000#32)) (broadcast S256x1024 (Scalar.ofBits (F := Ideal) .f32 0x00000000#32))

/-- The kernel's last payload. -/
theorem marks_eq (n w : IVec S256x1024 32) (v : FVec Ideal S256x1024 .f32) (m : FVec Ideal S1024x1024 .bf16) :
    k0_pay51 (F := Ideal) n (k0_pay47 v w) (k0_pay48 v n w) (k0_pay49 v n w) (k0_pay50 v n w) m = marks n (k0_pay47 v w) m := rfl

open Classical in
/-- The mark of a lane. -/
theorem marks_apply (n : IVec S256x1024 32) (z : FVec Ideal S256x1024 .f32) (m : FVec Ideal S1024x1024 .bf16)
    (hn : ∀ (r : Fin 256) (l : Fin 1024), n (ix2 r l) = BitVec.ofNat 32 l.val)
    (hm : ∀ i, m i = (if (i 0).val / 32 = (i 1).val / 32 ∧ (i 0).val ≤ (i 1).val then 1 else 0 : EReal)) (r : Fin 256) (g k : Fin 32) :
    marks n z m (ix2 r (lane g k)) = Pick.hot (fun k => z (ix2 r (lane g k))) k := by
  have hmax := steps_max n z hn r
  -- the group's greatest value, at every lane of the group
  obtain ⟨M, hM⟩ : ∃ M : EReal, M = stepSixteen n (stepEight n (stepFour n (stepTwo n (stepOne n z)))) (ix2 r (lane g k)) := ⟨_, rfl⟩
  have hset : ∀ j : Fin 32, {x | ∃ l : Fin 1024, l.val / 32 = (lane g j).val / 32 ∧ x = (z (ix2 r l) : EReal)}
      = Set.range fun k => (z (ix2 r (lane g k)) : EReal) := fun j => by
    ext x
    constructor
    · rintro ⟨l, hl, rfl⟩
      rw [lane_div] at hl
      refine ⟨placeOf l, ?_⟩
      have hg : groupOf l = g := Fin.ext hl
      show z (ix2 r (lane g (placeOf l))) = z (ix2 r l)
      rw [← hg, lane_groupOf]
    · rintro ⟨j', rfl⟩
      exact ⟨lane g j', by rw [lane_div, lane_div], rfl⟩
  have hk : IsGreatest (Set.range fun k => (z (ix2 r (lane g k)) : EReal)) M := by
    have := hmax (lane g k)
    rw [hset] at this
    rw [hM]
    exact this
  have hall : ∀ j, stepSixteen n (stepEight n (stepFour n (stepTwo n (stepOne n z)))) (ix2 r (lane g j)) = M := fun j => by
    have := hmax (lane g j)
    rw [hset] at this
    exact this.unique hk
  have hgr : ∀ j, greatest n z (ix2 r (lane g j)) = BitVec.ofBool (decide ((z (ix2 r (lane g j)) : EReal) = M)) := fun j => by
    show Ideal.cmp .oeq (z (ix2 r (lane g j))) (stepSixteen n (stepEight n (stepFour n (stepTwo n (stepOne n z)))) (ix2 r (lane g j))) = _
    rw [hall]
    rfl
  have hone : ∀ j, truncf (F := Ideal) .bf16 (sitofp (F := Ideal) .f32 (extui 32 (greatest n z) natLt_1_32)) bitsLt_bf16_f32 (ix2 r (lane g j))
      = (if (z (ix2 r (lane g j)) : EReal) = M then 1 else 0 : EReal) := fun j => by
    show ((((greatest n z (ix2 r (lane g j))).setWidth 32).toInt : ℝ) : EReal) = _
    rw [hgr]
    by_cases h : (z (ix2 r (lane g j)) : EReal) = M <;> simp [h]
  have hcount := counts_product (truncf (F := Ideal) .bf16 (sitofp (F := Ideal) .f32 (extui 32 (greatest n z) natLt_1_32)) bitsLt_bf16_f32) m hm r g k
  simp only [hone] at hcount
  have hsum : (∑ j : Fin 32, if j ≤ k then (if (z (ix2 r (lane g j)) : EReal) = M then (1 : EReal) else 0) else 0)
      = ∑ j : Fin 32, if (z (ix2 r (lane g j)) : EReal) = M ∧ j ≤ k then (1 : EReal) else 0 := by
    refine Finset.sum_congr rfl fun j _ => ?_
    by_cases h1 : j ≤ k <;> by_cases h2 : (z (ix2 r (lane g j)) : EReal) = M <;> simp [h1, h2]
  have hfirst := Pick.first_iff_count _ M hk k
  have h1 : (Scalar.ofBits (F := Ideal) .f32 0x3F800000#32 : EReal) = 1 := Ideal.ofBits_one_f32
  have h0 : (Scalar.ofBits (F := Ideal) .f32 0x00000000#32 : EReal) = 0 := Ideal.ofBits_zero_f32
  have hand : ∀ a b : Bool, IntOp.andi (BitVec.ofBool a) (BitVec.ofBool b) = BitVec.ofBool (a && b) := by decide
  show (Scalar.select (IntOp.andi (greatest n z (ix2 r (lane g k)))
    (Ideal.cmp .oeq (matmul dot_S256x1024_S1024x1024_S256x1024_1_0_0_1_n_n none
      (truncf (F := Ideal) .bf16 (sitofp (F := Ideal) .f32 (extui 32 (greatest n z) natLt_1_32)) bitsLt_bf16_f32) m
        (constant S256x1024 .f32 0x00000000#32) (ix2 r (lane g k))) (Scalar.ofBits (F := Ideal) .f32 0x3F800000#32)))
    (Scalar.ofBits (F := Ideal) .f32 0x3F800000#32) (Scalar.ofBits (F := Ideal) .f32 0x00000000#32) : EReal) = _
  rw [hcount, hsum, hgr, h1, h0]
  unfold Ideal.cmp Pick.hot
  dsimp only
  rw [hand]
  by_cases h : Pick.First (fun k => (z (ix2 r (lane g k)) : EReal)) k
  · obtain ⟨ha, hb⟩ := hfirst.2 h
    simp [Scalar.select, h, ha, hb]
  · rw [if_neg h]
    have : ¬ ((z (ix2 r (lane g k)) : EReal) = M ∧ (∑ j : Fin 32, if (z (ix2 r (lane g j)) : EReal) = M ∧ j ≤ k then (1 : EReal) else 0) = 1) :=
      fun e => h (hfirst.1 e)
    rw [← Bool.decide_and, decide_eq_false this]
    rfl

end Cert.Body

end
-- ==== Proof.Scratch.lean ====
/- The three matrices that the kernel's first step writes, read at an index over the extended reals: which lanes lie in which
   group, and which lanes precede which within a group. -/
module

public import proofs.«01_k».proof.Proof.Gen.KernelIdeal.Skeleton
public import Idealize.ShloMosaic.Lib.Pipeline.Value
public import Idealize.ShloMosaic.Lib.IdealHost

@[expose] public section

set_option maxRecDepth 16384

noncomputable section

namespace Cert.Body

open Cert.KernelIdeal Cert.KernelIdeal.Gen
open Idealize.ShloMosaic Idealize.SL.Sem

/-- The division of a word by 32 rounded down, as the kernel writes it: the quotient, less one where the signs differ and there
    is a remainder. -/
def floorWord (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 32#32 0#32)) (Scalar.extui (Scalar.cmpi .slt 32#32 0#32))))
      (IntOp.cmpi .ne (IntOp.remsi .vector x 32#32) 0#32))
    (IntOp.subi (IntOp.divsi .vector x 32#32) 1#32) (IntOp.divsi .vector x 32#32)

/-- A lane's group. -/
theorem floorWord_eq : ∀ n : Fin 1024, floorWord (BitVec.ofNat 32 n.val) = BitVec.ofNat 32 (n.val / 32) := by
  decide +kernel

/-- Small numbers' words are equal only for equal numbers. -/
theorem small_eq {m n : ℕ} (hm : m < 1024) (hn : n < 1024) : BitVec.ofNat 32 m = BitVec.ofNat 32 n ↔ m = n := by
  constructor
  · intro h
    have := congrArg BitVec.toNat h
    simp only [BitVec.toNat_ofNat] at this
    omega
  · rintro rfl
    rfl

/-- One where a test holds, else zero. -/
theorem choose_apply (b : Bool) :
    (Scalar.select (BitVec.ofBool b) (Scalar.ofBits (F := Ideal) .f32 0x3F800000#32) (Scalar.ofBits (F := Ideal) .f32 0x00000000#32) : EReal)
      = if b = true then 1 else 0 := by
  have h1 : (Scalar.ofBits (F := Ideal) .f32 0x3F800000#32 : EReal) = 1 := Ideal.ofBits_one_f32
  have h0 : (Scalar.ofBits (F := Ideal) .f32 0x00000000#32 : EReal) = 0 := Ideal.ofBits_zero_f32
  rw [h1, h0]
  cases b <;> rfl

/-- The matrix that sums each group's lanes. -/
theorem sums_apply (i : S1024x32.Idx) : k0_pay1 (F := Ideal) i = (if (i 0).val / 32 = (i 1).val then 1 else 0 : EReal) := by
  have e0 : iota .tc S1024x32 32 [0] iota_S1024x32_d0_w32 i = BitVec.ofNat 32 (i 0).val := iota_single_apply _ _ _ _ _ _
  have e1 : iota .tc S1024x32 32 [1] iota_S1024x32_d1_w32 i = BitVec.ofNat 32 (i 1).val := iota_single_apply _ _ _ _ _ _
  have h0 : (i 0).val < 1024 := (i 0).isLt
  have h1 : (i 1).val < 32 := (i 1).isLt
  unfold k0_pay1
  rw [shapeCast_self]
  show (Scalar.select (BitVec.ofBool (floorWord (iota .tc S1024x32 32 [0] iota_S1024x32_d0_w32 i) == iota .tc S1024x32 32 [1] iota_S1024x32_d1_w32 i))
    (Scalar.ofBits (F := Ideal) .f32 0x3F800000#32) (Scalar.ofBits (F := Ideal) .f32 0x00000000#32) : EReal) = _
  rw [e0, e1, choose_apply, floorWord_eq ⟨(i 0).val, h0⟩]
  simp only [beq_iff_eq, small_eq (show (i 0).val / 32 < 1024 by omega) (show (i 1).val < 1024 by omega)]

/-- The matrix that copies each group's sum to its lanes. -/
theorem copies_apply (i : S32x1024.Idx) :
    k0_pay4 (F := Ideal) (iota .tc S32x1024 32 [0] iota_S32x1024_d0_w32) (iota .tc S32x1024 32 [1] iota_S32x1024_d1_w32) 32#32 k0_pay2 k0_pay3 i
      = (if (i 0).val = (i 1).val / 32 then 1 else 0 : EReal) := by
  have e0 : iota .tc S32x1024 32 [0] iota_S32x1024_d0_w32 i = BitVec.ofNat 32 (i 0).val := iota_single_apply _ _ _ _ _ _
  have e1 : iota .tc S32x1024 32 [1] iota_S32x1024_d1_w32 i = BitVec.ofNat 32 (i 1).val := iota_single_apply _ _ _ _ _ _
  have h0 : (i 0).val < 32 := (i 0).isLt
  have h1 : (i 1).val < 1024 := (i 1).isLt
  unfold k0_pay4
  rw [shapeCast_self]
  show (Scalar.select (BitVec.ofBool (iota .tc S32x1024 32 [0] iota_S32x1024_d0_w32 i == floorWord (iota .tc S32x1024 32 [1] iota_S32x1024_d1_w32 i)))
    (Scalar.ofBits (F := Ideal) .f32 0x3F800000#32) (Scalar.ofBits (F := Ideal) .f32 0x00000000#32) : EReal) = _
  rw [e0, e1, choose_apply, floorWord_eq ⟨(i 1).val, h1⟩]
  simp only [beq_iff_eq, small_eq (show (i 0).val < 1024 by omega) (show (i 1).val / 32 < 1024 by omega)]

/-- The signed comparison of two small numbers' words. -/
theorem small_le {m n : ℕ} (hm : m < 1024) (hn : n < 1024) : (BitVec.ofNat 32 m).sle (BitVec.ofNat 32 n) = decide (m ≤ n) := by
  rw [BitVec.sle_eq_decide, BitVec.toInt_eq_toNat_cond, BitVec.toInt_eq_toNat_cond, BitVec.toNat_ofNat, BitVec.toNat_ofNat]
  congr 1
  apply propext
  omega

/-- The matrix that counts, for each lane, the lanes of its group up to it. -/
theorem counts_apply (i : S1024x1024.Idx) :
    k0_pay8 (F := Ideal) (iota .tc S1024x1024 32 [0] iota_S1024x1024_d0_w32) (iota .tc S1024x1024 32 [1] iota_S1024x1024_d1_w32)
        k0_pay5 k0_pay6 k0_pay7 i
      = (if (i 0).val / 32 = (i 1).val / 32 ∧ (i 0).val ≤ (i 1).val then 1 else 0 : EReal) := by
  have e0 : iota .tc S1024x1024 32 [0] iota_S1024x1024_d0_w32 i = BitVec.ofNat 32 (i 0).val := iota_single_apply _ _ _ _ _ _
  have e1 : iota .tc S1024x1024 32 [1] iota_S1024x1024_d1_w32 i = BitVec.ofNat 32 (i 1).val := iota_single_apply _ _ _ _ _ _
  have h0 : (i 0).val < 1024 := (i 0).isLt
  have h1 : (i 1).val < 1024 := (i 1).isLt
  unfold k0_pay8
  rw [shapeCast_self]
  show (Scalar.select (IntOp.andi
      (BitVec.ofBool (floorWord (iota .tc S1024x1024 32 [0] iota_S1024x1024_d0_w32 i) == floorWord (iota .tc S1024x1024 32 [1] iota_S1024x1024_d1_w32 i)))
      (BitVec.ofBool ((iota .tc S1024x1024 32 [0] iota_S1024x1024_d0_w32 i).sle (iota .tc S1024x1024 32 [1] iota_S1024x1024_d1_w32 i))))
    (Scalar.ofBits (F := Ideal) .f32 0x3F800000#32) (Scalar.ofBits (F := Ideal) .f32 0x00000000#32) : EReal) = _
  have ha : ∀ a b : Bool, IntOp.andi (BitVec.ofBool a) (BitVec.ofBool b) = BitVec.ofBool (a && b) := by decide
  rw [e0, e1, ha, choose_apply, floorWord_eq ⟨(i 0).val, h0⟩, floorWord_eq ⟨(i 1).val, h1⟩, small_le h0 h1]
  simp only [Bool.and_eq_true, beq_iff_eq, decide_eq_true_eq,
    small_eq (show (i 0).val / 32 < 1024 by omega) (show (i 1).val / 32 < 1024 by omega)]

end Cert.Body

end
-- ==== Proof.KernelValue.lean ====
/- The kernel's result array, entry by entry. -/
module

public import proofs.«01_k».proof.Proof.KernelOut
public import proofs.«01_k».proof.Proof.Payload
public import proofs.«01_k».proof.Proof.Scratch
public import proofs.«01_k».proof.Proof.Gen.KernelIdeal.Points
public import proofs.«01_k».proof.Proof.Gen.KernelIdeal.Run
public import Idealize.ShloMosaic.Lib.Pipeline.ValueKit

@[expose] public section

set_option maxRecDepth 16384

noncomputable section

namespace Cert.Body

open Cert.KernelIdeal Cert.KernelIdeal.Gen Cert.Soft Cert.Threefry
open Idealize.ShloMosaic hiding ix2
open Idealize.ShloMosaic.TcCoe Idealize.ShloMosaic.ValueIdx Idealize.SL.Sem

/-! ### One block of logits -/

/-- A later step keeps the three matrices of the first one, so every step's block is `blockOut` of its logits and these. -/
theorem outs_eq {F : FTy → Type} [FloatOps F] (m : (ℓ : Loc nD τ sig) → Buf (Elt F) ℓ) (c : Dev nD) : ∀ (n : ℕ) (h : n < cfg0.N),
    outsAt0 m c n h = (blockOut (grid0.coords ⟨n, h⟩) (iblk m c 0 ⟨n, h⟩) sumsM copiesM countsM, sumsM, copiesM, countsM)
  | 0, h => by
    refine (outsAt0_A m c ⟨0, h⟩ rfl).trans ?_
    rw [out_first, sums_first, copies_first, counts_first]
  | n + 1, h => by
    have hN : cfg0.N = 64 := N_0
    have hB : ¬(⟨n + 1, h⟩ : Fin cfg0.N).val % 64 = 0 := by dsimp only; omega
    refine (outsAt0_B m c ⟨n + 1, h⟩ hB).trans ?_
    rw [out_later]
    unfold sout0_B_0 sout0_B_1 sout0_B_2
    have e := outs_eq m c n (Nat.lt_of_succ_lt h)
    show (blockOut _ _ (outsAt0 m c n _).2.1 (outsAt0 m c n _).2.2.1 (outsAt0 m c n _).2.2.2, (outsAt0 m c n _).2.1,
      (outsAt0 m c n _).2.2.1, (outsAt0 m c n _).2.2.2) = _
    rw [e]

/-- The noisy logits of a real block: the group's score, and a number that the whole group shares. -/
theorem noisy_block (g0 : grid0.Coords) (x : FVec Ideal S256x1024 .f32) (r : Fin 256) (X : Fin 1024 → ℝ)
    (hx : ∀ l, x (ix2 r l) = (X l : EReal)) (g k : Fin 32) :
    k0_pay47 (F := Ideal) (k0_pay9 x sumsM copiesM) (words rowNo laneNo (k0_pay10 g0)) (ix2 r (lane g k))
      = score (fun k => draw (BitVec.ofNat 32 (1024 * (256 * (g0 0).val + r.val) + (lane g k).val))) (fun k => X (lane g k)) k
        + (Real.log (total fun k => X (lane g k)) : EReal) := by
  refine (noisy_apply _ _ _).trans ?_
  rw [words_at g0, logits_apply x _ _ sums_apply copies_apply r X hx g k]
  rw [EReal.coe_add, ← add_assoc]
  rfl

/-- A step's block of real logits, at place `k` of group `g` of its row `r`: a one where the score is first greatest. -/
theorem blockOut_apply (g0 : grid0.Coords) (x : FVec Ideal S256x1024 .f32) (r : Fin 256) (X : Fin 1024 → ℝ)
    (hx : ∀ l, x (ix2 r l) = (X l : EReal)) (g k : Fin 32) :
    blockOut (F := Ideal) g0 x sumsM copiesM countsM (ix2 r (lane g k))
      = Pick.hot (score (fun k => draw (BitVec.ofNat 32 (1024 * (256 * (g0 0).val + r.val) + (lane g k).val)))
          (fun k => X (lane g k))) k := by
  unfold blockOut
  rw [marks_eq]
  refine (marks_apply laneNo _ _ (fun _ _ => iota_single_apply ..) counts_apply r g k).trans ?_
  refine Eq.trans ?_ (congrFun (Pick.hot_add_real _ (Real.log (total fun k => X (lane g k)))) k)
  exact congrArg (fun f => Pick.hot f k) (funext fun k => noisy_block g0 x r X hx g k)

/-! ### The array -/

variable (m : (ℓ : Loc nD τ sig) → Buf (Elt Ideal) ℓ) (c : Dev nD)

/-- The step that writes a place's row. -/
def stepOf (i : S16384x1024.Idx) : Fin cfg0.N := ⟨(i 0).val / 256, by
  have h : (i 0).val < 16384 := (i 0).isLt
  have hN : cfg0.N = 64 := N_0
  omega⟩
/-- A row's number in the block of its step. -/
def rowOf (i : S16384x1024.Idx) : Fin 256 := ⟨(i 0).val % 256, Nat.mod_lt _ (by norm_num)⟩
/-- A place's lane. -/
def colOf (i : S16384x1024.Idx) : Fin 1024 := ⟨(i 1).val, (i 1).isLt⟩

/-- The blocks, put together. -/
def whole : S16384x1024.Idx → EReal := fun i =>
  blockOut (F := Ideal) (grid0.coords (stepOf i)) (iblk m c 0 (stepOf i)) sumsM copiesM countsM (ix2 (rowOf i) (colOf i))

/-- Both windows' block at a step is the step's row of blocks. -/
theorem index_in : ∀ t : Fin cfg0.N, win0_0.index t = ![t.val, 0] := (by decide +kernel : ∀ t : Fin grid0.N, _)
/-- The output's block at a step. -/
theorem index_out : ∀ t : Fin cfg0.N, win0_1.index t = ![t.val, 0] := (by decide +kernel : ∀ t : Fin grid0.N, _)
/-- A step's one grid coordinate is its number. -/
theorem coords_val : ∀ t : Fin cfg0.N, (grid0.coords t 0).val = t.val := (by decide +kernel : ∀ t : Fin grid0.N, _)

/-- The result array holds the blocks. -/
theorem array_eq : Cert.KernelIdeal.Value.reg_main_call0_v0 m c = whole m c := by
  refine (dats m 0 c).arrAt_eq_of_covers 1 _ (by decide +kernel) fun t hf y => ?_
  blk_simp
  rw [after0_1, outs_eq]
  have hy : (y 0).val < 256 := (y 0).isLt
  have e0 : ((win0_1.blk t).view.emb y 0 : ℕ) = t.val * 256 + (y 0).val := by blk_simp [index_out]
  have e1 : ((win0_1.blk t).view.emb y 1 : ℕ) = (y 1).val := by blk_simp [index_out]
  have es : stepOf ((win0_1.blk t).view.emb y) = t := Fin.ext (by show _ / 256 = _; rw [e0]; omega)
  have ey : (ix2 (rowOf ((win0_1.blk t).view.emb y)) (colOf ((win0_1.blk t).view.emb y)) : S256x1024.Idx) = y :=
    Shape.idx_ext₂ (by show _ % 256 = _; rw [e0]; omega) e1
  unfold whole
  rw [es, ey]

/-- A step's logits are its rows of the argument. -/
theorem logits_block (t : Fin cfg0.N) (r : Fin 256) (l : Fin 1024) (i : S16384x1024.Idx) (h0 : (i 0).val = 256 * t.val + r.val)
    (h1 : (i 1).val = l.val) : iblk m c 0 t (ix2 r l) = m ((c : Thread nD τ).loc main_arg0) i := by
  blk_simp [iblk]
  rw [V_main_arg0]
  refine congrArg _ (Shape.idx_ext₂ ?_ ?_)
  · blk_simp [index_in]
    rw [h0]
    show t.val * 256 + r.val = _
    omega
  · blk_simp [index_in]
    rw [h1]

end Cert.Body

end
-- ==== Proof.RefNoise.lean ====
/- The reference's random words: at index `(i, j, k)` the word that the uniform generator starts from is
   `Threefry.draw (1024 * i + 32 * j + k)`. -/
module

public import proofs.«01_k».proof.Proof.RefRun
public import proofs.«01_k».proof.Proof.Threefry
public import Idealize.ShloMosaic.Lib.Pipeline.Value

@[expose] public section

set_option maxRecDepth 16384

noncomputable section

namespace Cert.Ref

open Cert.ReferenceIdeal Cert.ReferenceIdeal.Gen Cert.Ssa Cert.Threefry
open Idealize.ShloMosaic Idealize.ShloMosaic.TcCoe Idealize.SL.Sem Idealize.ShloMosaic.StableHlo

variable {F : FTy → Type} [FloatOps F] {W : Valuation τ sig (Elt F)}

/-- The one index of a scalar. -/
abbrev pt : S_.Idx := fun a => a.elim0

/-- A scalar broadcast to the whole array, at an index. -/
theorem splat_apply {α : Type} (v : S_.Idx → α) (i : S16384x32x32.Idx) :
    broadcastInDim S16384x32x32 ![] bcast_S_S16384x32x32 v i = v pt :=
  broadcastInDim_apply _ bcast_S_S16384x32x32 v i pt fun a => a.elim0

/-- A host shift by less than the width. -/
theorem shl_of_lt {w : ℕ} (x y : BitVec w) (h : y.toNat < w) : IntOp.shli .host x y = x <<< y := if_pos h
/-- A host shift to the right by less than a word's width. -/
theorem shr_of_lt {w : ℕ} (x y : BitVec w) (h : y.toNat < w) : IntOp.shrui .host x y = x >>> y := if_pos h

section Rounds

variable {x0 x1 y0 b s b' s' o y1 ba bb t : TRef sig ⟨S16384x32x32, .i32⟩} {c c' ka kb : TRef sig ⟨S_, .i32⟩} {m n : BitVec 32}

/-- A mixing round, element by element. -/
theorem mixOps_eq (h : Sat W (mixOps x0 x1 y0 c b s c' b' s' o y1 m n)) (hm : m.toNat < 32) (hn : n.toNat < 32)
    {i : S16384x32x32.Idx} {p : BitVec 32 × BitVec 32} (hp : (rd W x0 i, rd W x1 i) = p) :
    ((rd W y0 i, rd W y1 i) : BitVec 32 × BitVec 32) = mix m n p := by
  subst hp
  simp only [sat_cons] at h
  obtain ⟨h1, h2, h3, h4, h5, h6, h7, h8, h9, -⟩ := h
  have e1 : rd W y0 i = rd W x0 i + rd W x1 i := congrFun (binary_eq h1) i
  have e3 : rd W b i = m := (congrFun (unary_eq h3) i).trans ((splat_apply _ i).trans (congrFun (nullary_eq h2) pt))
  have e6 : rd W b' i = n := (congrFun (unary_eq h6) i).trans ((splat_apply _ i).trans (congrFun (nullary_eq h5) pt))
  have e4 : rd W s i = rd W x1 i <<< m :=
    (congrFun (binary_eq h4) i).trans ((shl_of_lt _ _ (by rw [e3]; exact hm)).trans (by rw [e3]))
  have e7 : rd W s' i = rd W x1 i >>> n :=
    (congrFun (binary_eq h7) i).trans ((shr_of_lt _ _ (by rw [e6]; exact hn)).trans (by rw [e6]))
  have e8 : rd W o i = rd W s i ||| rd W s' i := congrFun (binary_eq h8) i
  have e9 : rd W y1 i = rd W y0 i ^^^ rd W o i := congrFun (binary_eq h9) i
  rw [e9, e8, e7, e4, e1]
  rfl

/-- A key addition, element by element. -/
theorem injOps_eq (h : Sat W (injOps ka kb x0 x1 ba y0 bb t c b y1 n)) {u v : BitVec 32} (hu : rd W ka pt = u)
    (hv : rd W kb pt = v) {i : S16384x32x32.Idx} {p : BitVec 32 × BitVec 32} (hp : (rd W x0 i, rd W x1 i) = p) :
    ((rd W y0 i, rd W y1 i) : BitVec 32 × BitVec 32) = inj u v n p := by
  subst hp
  simp only [sat_cons] at h
  obtain ⟨h1, h2, h3, h4, h5, h6, h7, -⟩ := h
  have e1 : rd W ba i = u := (congrFun (unary_eq h1) i).trans ((splat_apply _ i).trans hu)
  have e2 : rd W y0 i = rd W x0 i + rd W ba i := congrFun (binary_eq h2) i
  have e3 : rd W bb i = v := (congrFun (unary_eq h3) i).trans ((splat_apply _ i).trans hv)
  have e4 : rd W t i = rd W x1 i + rd W bb i := congrFun (binary_eq h4) i
  have e6 : rd W b i = n := (congrFun (unary_eq h6) i).trans ((splat_apply _ i).trans (congrFun (nullary_eq h5) pt))
  have e7 : rd W y1 i = rd W t i + rd W b i := congrFun (binary_eq h7) i
  rw [e7, e6, e4, e3, e2, e1]
  rfl

end Rounds

section Call

variable {arg0 arg1 : TRef sig ⟨S_, .i32⟩} {arg2 arg3 : TRef sig ⟨S16384x32x32, .i32⟩} {φ : fn_threefry2x32.Bufs}
  {k0 k1 : BitVec 32} {i : S16384x32x32.Idx}

/-- The threefry call, element by element. -/
theorem threefryOps_eq (h : Sat W (threefryOps arg0 arg1 arg2 arg3 φ)) (h0 : rd W arg0 pt = k0) (h1 : rd W arg1 pt = k1) :
    ((rd W φ.v171 i, rd W φ.v175 i) : BitVec 32 × BitVec 32)
      = rounds k0 k1 (k0 ^^^ k1 ^^^ 466688986#32) (rd W arg2 i + k0, rd W arg3 i + k1) := by
  simp only [threefryOps, quadOps1, quadOps2, quadOps3, quadOps4, quadOps5, sat_append] at h
  obtain ⟨hk, ⟨a1, a2, a3, a4, a5⟩, ⟨b1, b2, b3, b4, b5⟩, ⟨c1, c2, c3, c4, c5⟩, ⟨d1, d2, d3, d4, d5⟩, e1, e2, e3, e4, e5⟩ := h
  simp only [sat_cons] at hk
  obtain ⟨g1, g2, g3, g4, g5, g6, g7, -⟩ := hk
  have f1 : rd W φ.v1 pt = k0 ^^^ k1 ^^^ 466688986#32 := by
    have q1 : rd W φ.v0 pt = rd W arg0 pt ^^^ rd W arg1 pt := congrFun (binary_eq g1) pt
    have q2 : rd W φ.c pt = 466688986#32 := congrFun (nullary_eq g2) pt
    have q3 : rd W φ.v1 pt = rd W φ.v0 pt ^^^ rd W φ.c pt := congrFun (binary_eq g3) pt
    rw [q3, q2, q1, h0, h1]
  have f2 : ((rd W φ.v3 i, rd W φ.v5 i) : BitVec 32 × BitVec 32) = (rd W arg2 i + k0, rd W arg3 i + k1) := by
    have q1 : rd W φ.v2 i = k0 := (congrFun (unary_eq g4) i).trans ((splat_apply _ i).trans h0)
    have q2 : rd W φ.v3 i = rd W arg2 i + rd W φ.v2 i := congrFun (binary_eq g5) i
    have q3 : rd W φ.v4 i = k1 := (congrFun (unary_eq g6) i).trans ((splat_apply _ i).trans h1)
    have q4 : rd W φ.v5 i = rd W arg3 i + rd W φ.v4 i := congrFun (binary_eq g7) i
    rw [q4, q3, q2, q1]
  have s1 := mixOps_eq a4 (by decide) (by decide) (mixOps_eq a3 (by decide) (by decide)
    (mixOps_eq a2 (by decide) (by decide) (mixOps_eq a1 (by decide) (by decide) f2)))
  have s2 := mixOps_eq b4 (by decide) (by decide) (mixOps_eq b3 (by decide) (by decide)
    (mixOps_eq b2 (by decide) (by decide) (mixOps_eq b1 (by decide) (by decide) (injOps_eq a5 h1 f1 s1))))
  have s3 := mixOps_eq c4 (by decide) (by decide) (mixOps_eq c3 (by decide) (by decide)
    (mixOps_eq c2 (by decide) (by decide) (mixOps_eq c1 (by decide) (by decide) (injOps_eq b5 f1 h0 s2))))
  have s4 := mixOps_eq d4 (by decide) (by decide) (mixOps_eq d3 (by decide) (by decide)
    (mixOps_eq d2 (by decide) (by decide) (mixOps_eq d1 (by decide) (by decide) (injOps_eq c5 h0 h1 s3))))
  have s5 := mixOps_eq e4 (by decide) (by decide) (mixOps_eq e3 (by decide) (by decide)
    (mixOps_eq e2 (by decide) (by decide) (mixOps_eq e1 (by decide) (by decide) (injOps_eq d5 h1 f1 s4))))
  exact injOps_eq e5 f1 h0 s5

end Call

end Cert.Ref

end
-- ==== Proof.RefUniform.lean ====
/- The reference's noise: at index `(i, j, k)` it adds to the log-probability the Gumbel noise of the random word
   `Threefry.draw (1024 * i + 32 * j + k)`. -/
module

public import proofs.«01_k».proof.Proof.RefNoise
public import proofs.«01_k».proof.Proof.Gumbel

@[expose] public section

set_option maxRecDepth 16384

noncomputable section

namespace Cert.Ref

open Cert.ReferenceIdeal Cert.ReferenceIdeal.Gen Cert.Ssa Cert.Threefry
open Idealize.ShloMosaic Idealize.ShloMosaic.TcCoe Idealize.SL.Sem Idealize.ShloMosaic.StableHlo

/-- The row-major position of an index. -/
def lin (i : S16384x32x32.Idx) : ℕ := 1024 * (i 0).val + 32 * (i 1).val + (i 2).val

/-- The one index of a vector of one element. -/
abbrev at1 : S1.Idx := fun a => ⟨0, by fin_cases a; decide⟩

/-- The first index of a vector of two. -/
abbrev at2 : S2.Idx := fun a => ⟨0, by fin_cases a; decide⟩

/-- Its second index. -/
abbrev at2' : S2.Idx := fun a => ⟨1, by fin_cases a; decide⟩

section Words

variable {F : FTy → Type} [FloatOps F] {W : Valuation τ sig (Elt F)}

/-- The two counters: zero, and the index's position. -/
theorem counters_eq {a0 : TRef sig ⟨S2, .i32⟩} {a1 a2 : TRef sig ⟨S_, .f32⟩} {φ : fn_uniform.Bufs}
    (h : Sat W (counterOps a0 a1 a2 φ)) (i : S16384x32x32.Idx) :
    rd W φ.v22 i = 0#32 ∧ rd W φ.v21 i = BitVec.ofNat 32 (lin i) := by
  simp only [sat_cons] at h
  obtain ⟨-, -, -, -, -, -, -, -, h9, h10, h11, h12, h13, h14, h15, h16, h17, h18, h19, h20, h21, h22, h23, h24, h25, h26, h27, -⟩ := h
  have e9 : rd W φ.v8 i = BitVec.ofNat 64 (i 0).val := congrFun (nullary_eq h9) i
  have e10 : rd W φ.v9 i = BitVec.ofNat 64 (i 1).val := congrFun (nullary_eq h10) i
  have e11 : rd W φ.v10 i = BitVec.ofNat 64 (i 2).val := congrFun (nullary_eq h11) i
  have e13 : rd W φ.v11 i = 1024#64 := (congrFun (unary_eq h13) i).trans ((splat_apply _ i).trans (congrFun (nullary_eq h12) pt))
  have e14 : rd W φ.v12 i = rd W φ.v11 i * rd W φ.v8 i := congrFun (binary_eq h14) i
  have e16 : rd W φ.v13 i = 32#64 := (congrFun (unary_eq h16) i).trans ((splat_apply _ i).trans (congrFun (nullary_eq h15) pt))
  have e17 : rd W φ.v14 i = rd W φ.v13 i * rd W φ.v9 i := congrFun (binary_eq h17) i
  have e19 : rd W φ.v15 i = 1#64 := (congrFun (unary_eq h19) i).trans ((splat_apply _ i).trans (congrFun (nullary_eq h18) pt))
  have e20 : rd W φ.v16 i = rd W φ.v15 i * rd W φ.v10 i := congrFun (binary_eq h20) i
  have e21 : rd W φ.v17 i = rd W φ.v12 i + rd W φ.v14 i := congrFun (binary_eq h21) i
  have e22 : rd W φ.v18 i = rd W φ.v17 i + rd W φ.v16 i := congrFun (binary_eq h22) i
  have e24 : rd W φ.v19 i = 32#64 := (congrFun (unary_eq h24) i).trans ((splat_apply _ i).trans (congrFun (nullary_eq h23) pt))
  have e25 : rd W φ.v20 i = rd W φ.v18 i >>> (32#64 : BitVec 64) :=
    (congrFun (binary_eq h25) i).trans ((shr_of_lt _ _ (by rw [e24]; decide)).trans (by rw [e24]))
  have e26 : rd W φ.v21 i = (rd W φ.v18 i).setWidth 32 := congrFun (unary_eq h26) i
  have e27 : rd W φ.v22 i = (rd W φ.v20 i).setWidth 32 := congrFun (unary_eq h27) i
  have hv : rd W φ.v18 i = BitVec.ofNat 64 (lin i) := by
    rw [e22, e21, e20, e19, e17, e16, e14, e13, e11, e10, e9]
    simp only [lin, BitVec.ofNat_add, BitVec.ofNat_mul, BitVec.one_mul]
  have b0 : (i 0).val < 16384 := (i 0).isLt
  have b1 : (i 1).val < 32 := (i 1).isLt
  have b2 : (i 2).val < 32 := (i 2).isLt
  refine ⟨?_, ?_⟩
  · rw [e27, e25, hv]
    apply BitVec.eq_of_toNat_eq
    simp only [BitVec.toNat_setWidth, BitVec.ushiftRight_eq', BitVec.toNat_ushiftRight, BitVec.toNat_ofNat, Nat.shiftRight_eq_div_pow, Nat.reducePow, Nat.reduceMod, lin]
    omega
  · rw [e26, hv]
    apply BitVec.eq_of_toNat_eq
    simp only [BitVec.toNat_setWidth, BitVec.toNat_ofNat, lin]
    omega

/-- The pair of key words. -/
theorem keyPair_eq (h : Sat W softmaxOps) : rd W r_v26 at2 = 0#32 ∧ rd W r_v26 at2' = 1234#32 := by
  simp only [sat_cons] at h
  obtain ⟨-, -, -, -, -, -, -, -, -, -, -, -, -, -, -, -, -, -, -, -, -, -, -, -, -, -, -, h1, h2, h3, h4, h5, h6, h7, h8, h9, h10, -⟩ := h
  have e1 : rd W r_c pt = 1234#32 := congrFun (nullary_eq h1) pt
  have e2 : rd W r_c_6 pt = 32#32 := congrFun (nullary_eq h2) pt
  have e3 : rd W r_v20 pt = 0#32 :=
    (congrFun (binary_eq h3) pt).trans (show IntOp.shrui .host (rd W r_c pt) (rd W r_c_6 pt) = 0#32 by rw [e1, e2]; rfl)
  have e4 : rd W r_v21 pt = 0#32 := (congrFun (unary_eq h4) pt).trans e3
  have e5 : rd W r_v22 at1 = 0#32 :=
    (congrFun (unary_eq h5) _).trans ((broadcastInDim_apply _ bcast_S_S1 _ _ pt fun a => a.elim0).trans e4)
  have e6 : rd W r_c_7 pt = 4294967295#32 := congrFun (nullary_eq h6) pt
  have e7 : rd W r_v23 pt = 1234#32 :=
    (congrFun (binary_eq h7) pt).trans (show rd W r_c pt &&& rd W r_c_7 pt = 1234#32 by rw [e1, e6]; rfl)
  have e8 : rd W r_v24 pt = 1234#32 := (congrFun (unary_eq h8) pt).trans e7
  have e9 : rd W r_v25 at1 = 1234#32 :=
    (congrFun (unary_eq h9) _).trans ((broadcastInDim_apply _ bcast_S_S1 _ _ pt fun a => a.elim0).trans e8)
  exact ⟨(congrFun (binary_eq h10) _).trans ((concatenate_pair_apply_left _ _ _ concatenates_S1_S1_S2_d0 _ rfl at1
      (fun b => by fin_cases b; rfl)).trans e5),
    (congrFun (binary_eq h10) _).trans ((concatenate_pair_apply_right _ _ _ concatenates_S1_S1_S2_d0 _ rfl rfl at1
      (fun b hb => absurd (by fin_cases b; rfl) hb) rfl).trans e9)⟩

/-- The two key words as scalars. -/
theorem keys_eq {a0 : TRef sig ⟨S2, .i32⟩} {a1 a2 : TRef sig ⟨S_, .f32⟩} {φ : fn_uniform.Bufs}
    (h : Sat W (counterOps a0 a1 a2 φ)) (k0 : rd W a0 at2 = 0#32) (k1 : rd W a0 at2' = 1234#32) :
    rd W φ.v5 pt = 0#32 ∧ rd W φ.v7 pt = 1234#32 := by
  simp only [sat_cons] at h
  obtain ⟨-, -, -, -, h5, h6, h7, h8, -⟩ := h
  have e5 : rd W φ.v4 at1 = 0#32 :=
    (congrFun (unary_eq h5) _).trans ((extractStridedSlice_apply _ _ slices_S2_S1_0 _ at2 (fun a => by fin_cases a; rfl)).trans k0)
  have e7 : rd W φ.v6 at1 = 1234#32 :=
    (congrFun (unary_eq h7) _).trans ((extractStridedSlice_apply _ _ slices_S2_S1_1 _ at2' (fun a => by fin_cases a; rfl)).trans k1)
  have e6 : rd W φ.v5 = shapeCast S_ (rd W φ.v4) shapeCasts_S1_S_ := reshape_eq h6
  have e8 : rd W φ.v7 = shapeCast S_ (rd W φ.v6) shapeCasts_S1_S_ := reshape_eq h8
  have er : ∀ v : S1.Idx → BitVec 32, shapeCast S_ v shapeCasts_S1_S_ pt = v at1 :=
    fun v => shapeCast_apply v shapeCasts_S1_S_ pt at1 rfl
  exact ⟨(congrFun e6 pt).trans ((er _).trans e5), (congrFun e8 pt).trans ((er _).trans e7)⟩

/-- The random word at an index. -/
theorem word_eq (hs : Sat W softmaxOps) (hc : Sat W (counterOps r_v26 r_cst_8 r_cst_9 main_call0))
    (ht : Sat W (threefryOps main_call0.v5 main_call0.v7 main_call0.v22 main_call0.v21 φt)) (hu : Sat W (unitOps main_call0))
    (i : S16384x32x32.Idx) : rd W main_call0.v24 i = draw (BitVec.ofNat 32 (lin i)) := by
  obtain ⟨k0, k1⟩ := keys_eq hc (keyPair_eq hs).1 (keyPair_eq hs).2
  obtain ⟨c0, c1⟩ := counters_eq hc i
  have e := threefryOps_eq (i := i) ht k0 k1
  rw [c0, c1] at e
  exact (congrFun (binary_eq (sat_cons.1 hu).1) i).trans (congrArg (fun p : BitVec 32 × BitVec 32 => p.1 ^^^ p.2) e)

end Words

section Floats

variable {W : Valuation τ sig (Elt Ideal)}

/-- The one index of an array of one element in three axes. -/
abbrev at111 : S1x1x1.Idx := fun a => ⟨0, by fin_cases a <;> decide⟩

/-- An array of one element broadcast to the whole array, at an index. -/
theorem splat3_apply {α : Type} (v : S1x1x1.Idx → α) (i : S16384x32x32.Idx) :
    broadcastInDim S16384x32x32 ![0, 1, 2] bcast_S1x1x1_S16384x32x32_0_1_2 v i = v at111 :=
  broadcastInDim_apply _ bcast_S1x1x1_S16384x32x32_0_1_2 v i at111 fun a => by fin_cases a <;> rfl

/-- The uniform draw's bounds, as arrays of one element. -/
theorem bounds_eq {a0 : TRef sig ⟨S2, .i32⟩} {a1 a2 : TRef sig ⟨S_, .f32⟩} {φ : fn_uniform.Bufs}
    (h : Sat W (counterOps a0 a1 a2 φ)) (k0 : rd W a1 pt = (0 : EReal)) (k1 : rd W a2 pt = (1 : EReal)) :
    rd W φ.v2 at111 = (0 : EReal) ∧ rd W φ.v3 at111 = (1 : EReal) := by
  simp only [sat_cons] at h
  obtain ⟨h1, h2, h3, h4, -⟩ := h
  have e1 : rd W φ.v0 pt = (0 : EReal) := (congrFun (unary_eq h1) pt).trans k0
  have e2 : rd W φ.v1 pt = (1 : EReal) := (congrFun (unary_eq h2) pt).trans k1
  exact ⟨(congrFun (unary_eq h3) at111).trans ((broadcastInDim_apply _ bcast_S_S1x1x1 _ at111 pt fun a => a.elim0).trans e1),
    (congrFun (unary_eq h4) at111).trans ((broadcastInDim_apply _ bcast_S_S1x1x1 _ at111 pt fun a => a.elim0).trans e2)⟩

/-- The uniform number made of a word. -/
theorem unit_eq {φ : fn_uniform.Bufs} (h : Sat W (unitOps φ)) (k0 : rd W φ.v2 at111 = (0 : EReal))
    (k1 : rd W φ.v3 at111 = (1 : EReal)) (i : S16384x32x32.Idx) :
    rd W φ.v38 i = max (0 : EReal) (Gumbel.frac (rd W φ.v24 i)) := by
  simp only [sat_cons] at h
  obtain ⟨-, h2, h3, h4, h5, h6, h7, h8, h9, h10, h11, h12, h13, h14, h15, h16, h17, h18, -⟩ := h
  have e3 : rd W φ.v25 i = 9#32 := (congrFun (unary_eq h3) i).trans ((splat_apply _ i).trans (congrFun (nullary_eq h2) pt))
  have e4 : rd W φ.v26 i = rd W φ.v24 i >>> (9#32 : BitVec 32) :=
    (congrFun (binary_eq h4) i).trans ((shr_of_lt _ _ (by rw [e3]; decide)).trans (by rw [e3]))
  have e6 : rd W φ.v27 i = 1065353216#32 := (congrFun (unary_eq h6) i).trans ((splat_apply _ i).trans (congrFun (nullary_eq h5) pt))
  have e7 : rd W φ.v28 i = rd W φ.v26 i ||| rd W φ.v27 i := congrFun (binary_eq h7) i
  have e8 : rd W φ.v29 i = Ideal.ofBits .f32 (rd W φ.v28 i) := congrFun (unary_eq h8) i
  have e10 : rd W φ.v30 i = (1 : EReal) :=
    (congrFun (unary_eq h10) i).trans ((splat_apply _ i).trans ((congrFun (nullary_eq h9) pt).trans Ideal.ofBits_one_f32))
  have e11 : rd W φ.v31 i = (rd W φ.v29 i - rd W φ.v30 i : EReal) := congrFun (binary_eq h11) i
  have e12 : rd W φ.v32 at111 = (1 : EReal) := (congrFun (binary_eq h12) at111).trans
    (show (rd W φ.v3 at111 - rd W φ.v2 at111 : EReal) = 1 by rw [k0, k1, sub_zero])
  have e13 : rd W φ.v33 i = (1 : EReal) := (congrFun (unary_eq h13) i).trans ((splat3_apply _ i).trans e12)
  have e14 : rd W φ.v34 i = (rd W φ.v31 i * rd W φ.v33 i : EReal) := congrFun (binary_eq h14) i
  have e15 : rd W φ.v35 i = (0 : EReal) := (congrFun (unary_eq h15) i).trans ((splat3_apply _ i).trans k0)
  have e16 : rd W φ.v36 i = (rd W φ.v34 i + rd W φ.v35 i : EReal) := congrFun (binary_eq h16) i
  have e17 : rd W φ.v37 i = (0 : EReal) := (congrFun (unary_eq h17) i).trans ((splat3_apply _ i).trans k0)
  have e18 : rd W φ.v38 i = max (rd W φ.v37 i : EReal) (rd W φ.v36 i) := congrFun (binary_eq h18) i
  rw [e18, e17, e16, e15, e14, e13, e11, e10, e8, e7, e6, e4, mul_one, add_zero]
  rfl

/-- The sum of the noise and the log-probability, the uniform number being known. -/
theorem noisy_eq (h : Sat W noiseOps) {w : BitVec 32} {i : S16384x32x32.Idx}
    (hw : rd W r_v27 i = max (0 : EReal) (Gumbel.frac w)) :
    rd W r_v39 i = (Gumbel.noise w + Ideal.log (rd W r_v19 i) : EReal) := by
  simp only [sat_cons] at h
  obtain ⟨h1, h2, h3, h4, h5, h6, h7, h8, h9, h10, h11, h12, h13, h14, h15, -⟩ := h
  have e2 : rd W r_v28 i = (1 : EReal) :=
    (congrFun (unary_eq h2) i).trans ((splat_apply _ i).trans ((congrFun (nullary_eq h1) pt).trans Ideal.ofBits_one_f32))
  have e3 : rd W r_v29 i = (rd W r_v27 i * rd W r_v28 i : EReal) := congrFun (binary_eq h3) i
  have e5 : rd W r_v30 i = Gumbel.tiny :=
    (congrFun (unary_eq h5) i).trans ((splat_apply _ i).trans (congrFun (nullary_eq h4) pt))
  have e6 : rd W r_v31 i = (rd W r_v29 i + rd W r_v30 i : EReal) := congrFun (binary_eq h6) i
  have e8 : rd W r_v32 i = Gumbel.tiny :=
    (congrFun (unary_eq h8) i).trans ((splat_apply _ i).trans (congrFun (nullary_eq h7) pt))
  have e9 : rd W r_v33 i = max (rd W r_v32 i : EReal) (rd W r_v31 i) := congrFun (binary_eq h9) i
  have e10 : rd W r_v34 i = Ideal.log (rd W r_v33 i) := congrFun (unary_eq h10) i
  have e11 : rd W r_v35 i = (-(rd W r_v34 i) : EReal) := congrFun (unary_eq h11) i
  have e12 : rd W r_v36 i = Ideal.log (rd W r_v35 i) := congrFun (unary_eq h12) i
  have e13 : rd W r_v37 i = (-(rd W r_v36 i) : EReal) := congrFun (unary_eq h13) i
  have e14 : rd W r_v38 i = Ideal.log (rd W r_v19 i) := congrFun (unary_eq h14) i
  have e15 : rd W r_v39 i = (rd W r_v37 i + rd W r_v38 i : EReal) := congrFun (binary_eq h15) i
  rw [e15, e14, e13, e12, e11, e10, e9, e8, e6, e5, e3, e2, hw, mul_one, Gumbel.max_max_add]
  rfl

/-- The two float constants the uniform draw is called with. -/
theorem zeroOne_eq (h : Sat W softmaxOps) : rd W r_cst_8 pt = (0 : EReal) ∧ rd W r_cst_9 pt = (1 : EReal) := by
  simp only [sat_cons] at h
  obtain ⟨-, -, -, -, -, -, -, -, -, -, -, -, -, -, -, -, -, -, -, -, -, -, -, -, -, -, -, -, -, -, -, -, -, -, -, -, -, h1, h2, -⟩ := h
  exact ⟨(congrFun (nullary_eq h1) pt).trans Ideal.ofBits_zero_f32, (congrFun (nullary_eq h2) pt).trans Ideal.ofBits_one_f32⟩

/-- The noisy log-probabilities at an index. -/
theorem score_eq (hs : Sat W softmaxOps) (hc : Sat W (counterOps r_v26 r_cst_8 r_cst_9 main_call0))
    (ht : Sat W (threefryOps main_call0.v5 main_call0.v7 main_call0.v22 main_call0.v21 φt)) (hu : Sat W (unitOps main_call0))
    (hn : Sat W noiseOps) (i : S16384x32x32.Idx) :
    rd W r_v39 i = (Gumbel.noise (draw (BitVec.ofNat 32 (lin i))) + Ideal.log (rd W r_v19 i) : EReal) := by
  obtain ⟨k0, k1⟩ := bounds_eq hc (zeroOne_eq hs).1 (zeroOne_eq hs).2
  have e := unit_eq hu k0 k1 i
  rw [word_eq hs hc ht hu i] at e
  exact noisy_eq hn e

end Floats

end Cert.Ref

end
-- ==== Proof.RefValue.lean ====
/- The reference's result over the extended reals: at each index the one-hot number of the first greatest score of the index's
   group, where all the logits are real numbers. -/
module

public import proofs.«01_k».proof.Proof.RefUniform
public import proofs.«01_k».proof.Proof.Soft

@[expose] public section

set_option maxRecDepth 16384

noncomputable section

namespace Cert.Ref

open Cert.ReferenceIdeal Cert.ReferenceIdeal.Gen Cert.Ssa Cert.Threefry Cert.Soft
open Idealize.ShloMosaic Idealize.ShloMosaic.TcCoe Idealize.SL.Sem Idealize.ShloMosaic.StableHlo

/-- The member `k` of a group. -/
def member (j : S16384x32.Idx) (k : Fin 32) : S16384x32x32.Idx := fun a =>
  ⟨![(j 0).val, (j 1).val, k.val] a, by
    fin_cases a
    · exact (j 0).isLt
    · exact (j 1).isLt
    · exact k.isLt⟩

/-- An index's group. -/
def group (i : S16384x32x32.Idx) : S16384x32.Idx := fun a =>
  ⟨![(i 0).val, (i 1).val] a, by
    fin_cases a
    · exact (i 0).isLt
    · exact (i 1).isLt⟩

/-- The group's index as an array whose last axis has one element. -/
def group1 (j : S16384x32.Idx) : S16384x32x1.Idx := fun a =>
  ⟨![(j 0).val, (j 1).val, 0] a, by
    fin_cases a
    · exact (j 0).isLt
    · exact (j 1).isLt
    · exact Nat.one_pos⟩

/-- Every index is a member of its group. -/
theorem member_group (i : S16384x32x32.Idx) : member (group i) ⟨(i 2).val, (i 2).isLt⟩ = i := by
  funext a
  apply Fin.ext
  fin_cases a <;> rfl

/-- The reduction over the last axis, as the inserted index. -/
theorem reduces_last : S16384x32x32.Reduces [2] S16384x32 := by decide

/-- The index that the reduction inserts is the group's member. -/
theorem lift_eq (j : S16384x32.Idx) (k : Fin 32) : reduces_last.lift j k = member j k := by
  funext a
  apply Fin.ext
  fin_cases a <;> rfl

/-- A group's number broadcast to the group's members. -/
theorem spread_apply {α : Type} (v : S16384x32.Idx → α) (j : S16384x32.Idx) (k : Fin 32) :
    broadcastInDim S16384x32x32 ![0, 1, 2] bcast_S16384x32x1_S16384x32x32_0_1_2
      (broadcastInDim S16384x32x1 ![0, 1] bcast_S16384x32_S16384x32x1_0_1 v) (member j k) = v j :=
  (broadcastInDim_apply _ bcast_S16384x32x1_S16384x32x32_0_1_2 _ (member j k) (group1 j) fun a => by fin_cases a <;> rfl).trans
    (broadcastInDim_apply _ bcast_S16384x32_S16384x32x1_0_1 v (group1 j) j fun a => by fin_cases a <;> rfl)

/-- The host's maximum of each group, from minus infinity. -/
theorem reduceMax_apply (v : FVec Ideal S16384x32x32 .f32) (u : FVec Ideal S_ .f32) (hu : u pt = (⊥ : EReal)) (j : S16384x32.Idx) :
    Host.reduce FloatOps.maximumf v u reducesTo_S16384x32x32_S16384x32_d2 h_S_ j
      = (Finset.univ : Finset (Fin 32)).fold max (⊥ : EReal) (fun k => v (member j k)) := by
  rw [Host.reduce_eq_fold_single FloatOps.maximumf v u _ reduces_last h_S_ j]
  have e0 : u (Shape.Idx.first h_S_) = (⊥ : EReal) := (congrArg u (funext fun a => a.elim0)).trans hu
  have hf : (v ∘ reduces_last.lift j) = fun k : Fin 32 => v (member j k) := funext fun k => congrArg v (lift_eq j k)
  rw [e0]
  exact congrArg (fun f => Finset.fold (β := EReal) max ⊥ f (Finset.univ : Finset (Fin 32))) hf

/-- The host's sum of each group, from zero. -/
theorem reduceSum_apply (v : FVec Ideal S16384x32x32 .f32) (z : EReal) (hz : z = 0) (j : S16384x32.Idx) :
    Ideal.hostReduceAdd reducesTo_S16384x32x32_S16384x32_d2 v z j = (∑ k : Fin 32, v (member j k) : EReal) := by
  rw [Ideal.hostReduceAdd_single _ reduces_last v z j, hz, zero_add]
  exact Finset.sum_congr rfl fun k _ => congrArg v (lift_eq j k)

/-- The pairs that an argmax over the last axis folds: a group's values, each with its position's word. -/
theorem mem_fiber (v : FVec Ideal S16384x32x32 .f32) (y : IVec S16384x32x32 32)
    (hy : ∀ j k, y (member j k) = BitVec.ofNat 32 k.val) (j : S16384x32.Idx) (p : EReal × BitVec 32) :
    p ∈ Host.argReduceFiber v y reducesTo_S16384x32x32_S16384x32_d2 j
      ↔ ∃ k : Fin 32, p = (v (member j k), BitVec.ofNat 32 k.val) := by
  unfold Host.argReduceFiber
  rw [Shape.ReducesTo.drop_eq_drop _ reduces_last]
  simp only [List.mem_map, List.mem_filter, List.mem_finRange, true_and, decide_eq_true_eq]
  constructor
  · rintro ⟨n, hn, rfl⟩
    have e := reduces_last.lift_drop (S16384x32x32.rowMajor.symm n)
    rw [hn] at e
    refine ⟨⟨(S16384x32x32.rowMajor.symm n 2).val, (S16384x32x32.rowMajor.symm n 2).isLt⟩, ?_⟩
    generalize S16384x32x32.rowMajor.symm n = i at *
    have e' : member j ⟨(i 2).val, (i 2).isLt⟩ = i := (lift_eq j _).symm.trans e
    have e1 := congrArg v e'
    have e2 := (hy j ⟨(i 2).val, (i 2).isLt⟩).symm.trans (congrArg y e')
    exact Prod.ext e1.symm e2.symm
  · rintro ⟨k, rfl⟩
    refine ⟨S16384x32x32.rowMajor (member j k), ?_, ?_⟩
    · rw [Equiv.symm_apply_apply]
      exact (congrArg reduces_last.drop (lift_eq j k).symm).trans (reduces_last.drop_lift j k)
    · rw [Equiv.symm_apply_apply, hy]

variable {W : Valuation τ sig (Elt Ideal)}

/-- The mixed softmax of a group of real numbers. -/
theorem prob_eq (h : Sat W softmaxOps) {j : S16384x32.Idx} {x : Fin 32 → ℝ}
    (hx : ∀ k, rd W r_v0 (member j k) = (x k : EReal)) (k : Fin 32) : rd W r_v19 (member j k) = (prob x k : EReal) := by
  simp only [sat_cons] at h
  obtain ⟨-, h2, h3, h4, h5, h6, h7, h8, h9, h10, h11, h12, h13, h14, h15, h16, h17, h18, h19, h20, h21, h22, h23, h24, h25, h26, h27, -⟩ := h
  have e2 : rd W r_cst pt = (⊥ : EReal) := (congrFun (nullary_eq h2) pt).trans ofBits_bot
  obtain ⟨M, hM⟩ := fold_max_real x
  have e3 : rd W r_v1 j = (M : EReal) := by
    refine (congrFun (binaryRef_eq h3) j).trans ?_
    refine (reduceMax_apply _ _ e2 j).trans ?_
    exact (congrArg (fun f => Finset.fold (β := EReal) max ⊥ f (Finset.univ : Finset (Fin 32))) (funext hx)).trans hM
  have e5 : rd W r_v2 j = (⊥ : EReal) := (congrFun (unary_eq h5) j).trans
    ((broadcastInDim_apply _ bcast_S_S16384x32 _ j pt fun a => a.elim0).trans ((congrFun (nullary_eq h4) pt).trans ofBits_bot))
  have e6 : rd W r_v3 j = (M : EReal) := (congrFun (binary_eq h6) j).trans
    (show max (rd W r_v2 j : EReal) (rd W r_v1 j) = (M : EReal) by rw [e5, e3]; exact max_eq_right bot_le)
  have e8 : ∀ k, rd W r_v5 (member j k) = (M : EReal) := fun k => by
    rw [unary_eq h8, unary_eq h7]
    exact (spread_apply _ j k).trans e6
  have e9 : ∀ k, rd W r_v6 (member j k) = ((x k - M : ℝ) : EReal) := fun k => (congrFun (binary_eq h9) _).trans
    (show (rd W r_v0 (member j k) - rd W r_v5 (member j k) : EReal) = _ by rw [hx, e8]; rfl)
  have e10 : ∀ k, rd W r_v7 (member j k) = (Real.exp (x k - M) : EReal) := fun k => (congrFun (unary_eq h10) _).trans
    (show Ideal.exp (rd W r_v6 (member j k)) = _ by rw [e9]; rfl)
  have e12 : rd W r_v8 j = ((∑ k, Real.exp (x k - M) : ℝ) : EReal) := by
    refine (congrFun (binaryRef_eq h12) j).trans ?_
    refine (reduceSum_apply _ _ ((congrFun (nullary_eq h11) _).trans Ideal.ofBits_zero_f32) j).trans ?_
    exact (Finset.sum_congr rfl fun k _ => e10 k).trans (coe_sum _ _).symm
  have e14 : ∀ k, rd W r_v10 (member j k) = ((∑ k, Real.exp (x k - M) : ℝ) : EReal) := fun k => by
    rw [unary_eq h14, unary_eq h13]
    exact (spread_apply _ j k).trans e12
  have hpos : (∑ k, Real.exp (x k - M) : ℝ) ≠ 0 := (total_pos fun k => x k - M).ne'
  have e15 : rd W r_v11 (member j k) = ((Real.exp (x k) / total x : ℝ) : EReal) := (congrFun (binary_eq h15) _).trans
    (show Ideal.div (rd W r_v7 (member j k)) (rd W r_v10 (member j k)) = _ by
      rw [e10, e14, div_real _ hpos, softmax_sub])
  have e17 : rd W r_v12 (member j k) = (1 : EReal) :=
    (congrFun (unary_eq h17) _).trans ((splat_apply _ _).trans ((congrFun (nullary_eq h16) pt).trans Ideal.ofBits_one_f32))
  have e19 : rd W r_v13 (member j k) = (Soft.mix : EReal) :=
    (congrFun (unary_eq h19) _).trans ((splat_apply _ _).trans ((congrFun (nullary_eq h18) pt).trans ofBits_mix))
  have e20 : rd W r_v14 (member j k) = (Soft.mix : EReal) := (congrFun (binary_eq h20) _).trans
    (show (rd W r_v13 (member j k) * rd W r_v12 (member j k) : EReal) = _ by rw [e19, e17, mul_one])
  have e22 : rd W r_v15 (member j k) = ((32 : ℝ) : EReal) :=
    (congrFun (unary_eq h22) _).trans ((splat_apply _ _).trans ((congrFun (nullary_eq h21) pt).trans ofBits_32))
  have e23 : rd W r_v16 (member j k) = ((Soft.mix / 32 : ℝ) : EReal) := (congrFun (binary_eq h23) _).trans
    (show Ideal.div (rd W r_v14 (member j k)) (rd W r_v15 (member j k)) = _ by rw [e20, e22, div_real _ (by norm_num)])
  have e25 : rd W r_v17 (member j k) = (scale : EReal) :=
    (congrFun (unary_eq h25) _).trans ((splat_apply _ _).trans ((congrFun (nullary_eq h24) pt).trans ofBits_scale))
  have e26 : rd W r_v18 (member j k) = ((scale * (Real.exp (x k) / total x) : ℝ) : EReal) := (congrFun (binary_eq h26) _).trans
    (show (rd W r_v17 (member j k) * rd W r_v11 (member j k) : EReal) = _ by rw [e25, e15, EReal.coe_mul])
  exact (congrFun (binary_eq h27) _).trans
    (show (rd W r_v16 (member j k) + rd W r_v18 (member j k) : EReal) = _ by rw [e23, e26, ← EReal.coe_add]; rfl)

/-- The comparison that the argmax folds with takes, of two pairs, one as good as both. -/
theorem reducer_good (a b : EReal × BitVec 32) :
    (reducer_argmax_f32_i32 (F := Ideal) a b = a ∨ reducer_argmax_f32_i32 (F := Ideal) a b = b)
      ∧ Pick.Good (reducer_argmax_f32_i32 (F := Ideal) a b) a ∧ Pick.Good (reducer_argmax_f32_i32 (F := Ideal) a b) b := by
  obtain ⟨a1, a2⟩ := a
  obtain ⟨b1, b2⟩ := b
  have e : reducer_argmax_f32_i32 (F := Ideal) (a1, a2) (b1, b2)
      = (if b1 < a1 then a1 else b1, if b1 < a1 ∨ (a1 = b1 ∧ a2.toInt < b2.toInt) then a2 else b2) := by
    simp only [reducer_argmax_f32_i32, Ideal.cmpf_def, Ideal.cmp, IntOp.cmpi, IntOp.ori, IntOp.andi, Scalar.select, BitVec.slt]
    by_cases h1 : b1 < a1 <;> by_cases h2 : a1 = b1 <;> by_cases h3 : a2.toInt < b2.toInt <;> simp [h1, h2, h3]
  rw [e]
  rcases lt_trichotomy a1 b1 with h | h | h
  · simp [h.not_gt, h.ne, Pick.Good, h]
  · subst h
    by_cases h3 : a2.toInt < b2.toInt
    · simp [h3, Pick.Good, h3.le]
    · simp [h3, Pick.Good, not_lt.1 h3]
  · simp [h, Pick.Good]

/-- The argmax of a group's values is the position of the first greatest. -/
theorem argReduce_first (v : FVec Ideal S16384x32x32 .f32) (y : IVec S16384x32x32 32) (u : FVec Ideal S_ .f32) (z : IVec S_ 32)
    (hy : ∀ j k, y (member j k) = BitVec.ofNat 32 k.val) (hu : u (Shape.Idx.first h_S_) = (⊥ : EReal))
    (hz : z (Shape.Idx.first h_S_) = 0#32) (j : S16384x32.Idx) :
    ∃ k, Pick.First (fun k => (v (member j k) : EReal)) k
      ∧ (Host.argReduce reducer_argmax_f32_i32 v y u z reducesTo_S16384x32x32_S16384x32_d2 h_S_ j).2 = BitVec.ofNat 32 k.val := by
  obtain ⟨k, hk, e⟩ := Pick.foldl_first (reducer_argmax_f32_i32 (F := Ideal)) reducer_good _ _ (mem_fiber v y hy j)
  refine ⟨k, hk, ?_⟩
  rw [← e, Ideal.argReduce_eq_reduce2, Host.reduce2_eq_foldl_fiber, hu, hz]

/-- The argmax's result for a group. -/
theorem argmax_first {a : TRef sig ⟨S16384x32x32, .f32⟩} {φ : fn_argmax.Bufs} (h : Sat W (argmaxOps a φ)) (j : S16384x32.Idx) :
    ∃ k, Pick.First (fun k => (rd W a (member j k) : EReal)) k ∧ rd W φ.v1_1 j = BitVec.ofNat 32 k.val := by
  simp only [sat_cons] at h
  obtain ⟨h1, h2, h3, -, h5, -⟩ := h
  have hy : ∀ j k, rd W φ.v0 (member j k) = BitVec.ofNat 32 k.val := fun j k => (congrFun (nullary_eq h1) _).trans rfl
  have e2 : rd W φ.cst (Shape.Idx.first h_S_) = (⊥ : EReal) := (congrFun (nullary_eq h2) _).trans ofBits_bot
  have e3 : rd W φ.c (Shape.Idx.first h_S_) = 0#32 := (congrFun (nullary_eq h3) _).trans rfl
  rw [quaternary_eq h5]
  exact argReduce_first _ _ _ _ hy e2 e3 j

/-- Two positions' words are equal only for the same position. -/
theorem word_inj (k l : Fin 32) : BitVec.ofNat 32 k.val = BitVec.ofNat 32 l.val ↔ k = l := by
  constructor
  · intro h
    have := congrArg BitVec.toNat h
    simp only [BitVec.toNat_ofNat] at this
    have := k.isLt
    have := l.isLt
    apply Fin.ext
    omega
  · rintro rfl
    rfl

/-- The one-hot number of a group's position. -/
theorem oneHot_apply {a : TRef sig ⟨S16384x32, .i32⟩} {φ : fn_one_hot.Bufs} (h : Sat W (oneHotOps a φ)) (j : S16384x32.Idx) (l k : Fin 32)
    (ha : rd W a j = BitVec.ofNat 32 l.val) : rd W φ.v5 (member j k) = (if l = k then 1 else 0 : EReal) := by
  simp only [sat_cons] at h
  obtain ⟨h1, h2, h3, h4, h5, h6, -⟩ := h
  have e3 : rd W φ.v2 (member j k) = BitVec.ofNat 32 l.val := by
    rw [unary_eq h3, unary_eq h1]
    exact (spread_apply _ j k).trans ha
  have e4 : rd W φ.v3 (member j k) = BitVec.ofNat 32 k.val := by
    rw [unary_eq h4, nullary_eq h2]
    exact (broadcastInDim_apply _ bcast_S1x1x32_S16384x32x32_0_1_2 _ (member j k)
      (fun a => ⟨![0, 0, k.val] a, by
        fin_cases a
        · exact Nat.one_pos
        · exact Nat.one_pos
        · exact k.isLt⟩) fun a => by fin_cases a <;> rfl).trans rfl
  have e5 : rd W φ.v4 (member j k) = IntOp.cmpi .eq (BitVec.ofNat 32 l.val) (BitVec.ofNat 32 k.val) := (congrFun (binary_eq h5) _).trans
    (show IntOp.cmpi .eq (rd W φ.v2 (member j k)) (rd W φ.v3 (member j k)) = _ by rw [e3, e4])
  refine (congrFun (unary_eq h6) _).trans ?_
  show FloatOps.uitofp (F := Ideal) .f32 (rd W φ.v4 (member j k)) = _
  rw [e5]
  by_cases hlk : l = k
  · subst hlk
    simp [IntOp.cmpi, FloatOps.uitofp]
  · have : BitVec.ofNat 32 l.val ≠ BitVec.ofNat 32 k.val := fun e => hlk ((word_inj l k).1 e)
    simp [IntOp.cmpi, FloatOps.uitofp, hlk, this]

/-- The reference's result at a member of a group of real logits. -/
theorem result_eq (h : Sat W ops) {j : S16384x32.Idx} {x : Fin 32 → ℝ}
    (hx : ∀ k, rd W r_v0 (member j k) = (x k : EReal)) (k : Fin 32) :
    rd W r_v43 (member j k) = Pick.hot (score (fun k => draw (BitVec.ofNat 32 (lin (member j k)))) x) k := by
  obtain ⟨hs, h⟩ := sat_append.1 h
  obtain ⟨hc, h⟩ := sat_append.1 h
  obtain ⟨t0, h⟩ := sat_append.1 h
  obtain ⟨t1, h⟩ := sat_append.1 h
  obtain ⟨t2, h⟩ := sat_append.1 h
  obtain ⟨t3, h⟩ := sat_append.1 h
  obtain ⟨t4, h⟩ := sat_append.1 h
  obtain ⟨t5, h⟩ := sat_append.1 h
  obtain ⟨hu, h⟩ := sat_append.1 h
  obtain ⟨hn, h⟩ := sat_append.1 h
  obtain ⟨ha, h⟩ := sat_append.1 h
  obtain ⟨ho, he⟩ := sat_append.1 h
  have ht : Sat W (threefryOps main_call0.v5 main_call0.v7 main_call0.v22 main_call0.v21 φt) :=
    sat_append.2 ⟨t0, sat_append.2 ⟨t1, sat_append.2 ⟨t2, sat_append.2 ⟨t3, sat_append.2 ⟨t4, t5⟩⟩⟩⟩⟩
  have hp := prob_eq hs hx
  have hf : (fun k => (rd W r_v39 (member j k) : EReal)) = score (fun k => draw (BitVec.ofNat 32 (lin (member j k)))) x := by
    funext k
    refine (score_eq hs hc ht hu hn (member j k)).trans ?_
    rw [hp k, Soft.log_pos (prob_pos x k)]
    rfl
  obtain ⟨l, hl, e⟩ := argmax_first ha j
  rw [hf] at hl
  have e41 := oneHot_apply ho j l k e
  simp only [sat_cons] at he
  obtain ⟨h42, h43, -⟩ := he
  have e42 : rd W r_v42 (member j k) = (0 : EReal) := (congrFun (binary_eq h42) _).trans
    (show (rd W r_v19 (member j k) - rd W r_v19 (member j k) : EReal) = 0 by
      rw [hp k, ← EReal.coe_sub, sub_self]; rfl)
  refine (congrFun (binary_eq h43) _).trans ?_
  show (rd W r_v41 (member j k) + rd W r_v42 (member j k) : EReal) = _
  rw [e42, add_zero]
  refine e41.trans ?_
  unfold Pick.hot
  by_cases hlk : l = k
  · subst hlk
    rw [if_pos rfl, if_pos hl]
  · rw [if_neg hlk, if_neg fun hk => hlk (hl.unique hk)]

end Cert.Ref

end
-- ==== Proof.Result.lean ====
/- The kernel's result and the reference's are the same array where the logits are real numbers. -/
module

public import proofs.«01_k».proof.Proof.KernelValue
public import proofs.«01_k».proof.Proof.RefValue

@[expose] public section

set_option maxRecDepth 16384

noncomputable section

namespace Cert.Result

open Cert.Soft Cert.Threefry Cert.Ref Cert.Body
open Idealize.ShloMosaic hiding ix2
open Idealize.ShloMosaic.TcCoe Idealize.ShloMosaic.ValueIdx Idealize.SL.Sem

/-- The place in the array of rows of a member of a group. -/
def flat (j : Cert.ReferenceIdeal.S16384x32.Idx) (l : Fin 1024) : Cert.KernelIdeal.S16384x1024.Idx := ix2 ⟨(j 0).val, (j 0).isLt⟩ l

/-- A group's number in its row. -/
def inRow (j : Cert.ReferenceIdeal.S16384x32.Idx) : Fin 32 := ⟨(j 1).val, (j 1).isLt⟩

/-- The array of rows, read in the result's shape. -/
theorem cast_apply {α : Type} (v : Cert.KernelIdeal.S16384x1024.Idx → α)
    (h : Cert.KernelIdeal.S16384x1024.ShapeCasts Cert.KernelIdeal.S16384x32x32) (j : Cert.ReferenceIdeal.S16384x32.Idx) (k : Fin 32) :
    shapeCast Cert.KernelIdeal.S16384x32x32 v h (member j k) = v (flat j (lane (inRow j) k)) := by
  refine shapeCast_apply v h _ _ ?_
  refine (Shape.rowMajor_val_two _).trans (Eq.trans ?_ (Shape.rowMajor_val_three _).symm)
  show (j 0).val * 1024 + (32 * (j 1).val + k.val) = ((j 0).val * 32 + (j 1).val) * 32 + k.val
  omega

/-- The kernel's array of rows at a member of a group. -/
theorem whole_apply (m : (ℓ : Loc Cert.KernelIdeal.nD Cert.KernelIdeal.τ Cert.KernelIdeal.sig) → Buf (Elt Ideal) ℓ) (c : Dev Cert.KernelIdeal.nD)
    (X : Cert.KernelIdeal.S16384x1024.Idx → ℝ)
    (hX : ∀ i, m ((c : Thread Cert.KernelIdeal.nD Cert.KernelIdeal.τ).loc Cert.KernelIdeal.main_arg0) i = (X i : EReal))
    (j : Cert.ReferenceIdeal.S16384x32.Idx) (k : Fin 32) :
    whole m c (flat j (lane (inRow j) k))
      = Pick.hot (score (fun k => draw (BitVec.ofNat 32 (lin (member j k)))) (fun k => X (flat j (lane (inRow j) k)))) k := by
  have hs : (stepOf (flat j (lane (inRow j) k))).val = (j 0).val / 256 := rfl
  have hr : (rowOf (flat j (lane (inRow j) k))).val = (j 0).val % 256 := rfl
  refine (blockOut_apply _ _ _ (fun l => X (flat j l)) (fun l => ?_) (inRow j) k).trans ?_
  · refine (logits_block m c _ _ l (flat j l) ?_ rfl).trans (hX _)
    rw [hs, hr]
    show (j 0).val = _
    omega
  · refine congrArg (fun w => Pick.hot (score w _) k) (funext fun k' => congrArg (fun n => draw (BitVec.ofNat 32 n)) ?_)
    rw [coords_val, hs, hr]
    show 1024 * (256 * ((j 0).val / 256) + (j 0).val % 256) + (32 * (j 1).val + k'.val) = 1024 * (j 0).val + 32 * (j 1).val + k'.val
    omega

end Cert.Result

end
-- ==== Proof.Finite.lean ====
/- What the precondition says: every logit is a real number. -/
module

public import proofs.«01_k».proof.Pre_finite
public import Idealize.ShloMosaic.Lib.ReduceAll
public import Idealize.ShloMosaic.PureOps.Ideal

@[expose] public section

noncomputable section

namespace Cert.Pre_finite

open Idealize.ShloMosaic

/-- The predicate's side conditions. -/
theorem sides : Facts where
  bcast_S_S16384x1024 := by decide
  reducesTo_S16384x1024_S_d0_1 := by decide
  h_S_ := by decide

/-- The word the predicate compares with is the greatest extended real. -/
theorem ofBits_top : Ideal.ofBits .f32 0x7F800000#32 = (⊤ : EReal) := by
  simp [Ideal.ofBits, Ideal.ieee]

/-- Where the predicate holds, the array has real entries. -/
theorem real_of_fn (x : FVec Ideal S16384x1024 .f32) (h : (haveI := sides; fn (F := Ideal) x) = fun _ => 1#1) (i : S16384x1024.Idx) :
    ∃ r : ℝ, x i = (r : EReal) := by
  haveI := sides
  have e := congrFun h (fun a => a.elim0)
  unfold fn at e
  dsimp only at e
  haveI : Subsingleton S_.Idx := ⟨fun a b => funext fun k => k.elim0⟩
  have e' := Host.reduce_andi_all _ _ _ _ _ e i
  have hlt : max (x i : EReal) (-(x i)) < Ideal.ofBits .f32 0x7F800000#32 := by
    by_contra hc
    have : (cmpf (F := Ideal) .olt (Host.absf x) (broadcastInDim S16384x1024 ![] Facts.bcast_S_S16384x1024 (constant S_ .f32 0x7F800000#32)) i) = 0#1 := by
      show BitVec.ofBool (decide (max (x i : EReal) (-(x i)) < Ideal.ofBits .f32 0x7F800000#32)) = 0#1
      rw [decide_eq_false hc]
      rfl
    rw [this] at e'
    exact absurd e' (by decide)
  rw [ofBits_top] at hlt
  obtain ⟨h1, h2⟩ := max_lt_iff.1 hlt
  refine ⟨(x i : EReal).toReal, (EReal.coe_toReal h1.ne fun hb => ?_).symm⟩
  rw [hb] at h2
  simp at h2

end Cert.Pre_finite

end
-- ==== Proof.lean ====
/- The proof of the claims: the programs' runs, the two results compared at each index, and the claims put together. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Run
public import proofs.«01_k».proof.Proof.Gen.ReferenceIdeal
public import proofs.«01_k».proof.Proof.RefRun
public import proofs.«01_k».proof.Proof.Result
public import proofs.«01_k».proof.Proof.Finite
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The kernel's result, in its own shape. -/
def result (m : (ℓ : Loc KernelIdeal.nD KernelIdeal.τ KernelIdeal.sig) → Buf (Elt Ideal) ℓ) (c : Dev KernelIdeal.nD) :
    Buf (Elt Ideal) ((c.tc : Thread KernelIdeal.nD KernelIdeal.τ).loc KernelIdeal.main_v0) :=
  shapeCast KernelIdeal.S16384x32x32 (Body.whole m c) KernelIdeal.Gen.shapeCasts_S16384x1024_S16384x32x32

/-- The kernel ends with that result and with its argument unchanged. -/
theorem kernel_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v0) = result m c
      ∧ r.2.mem ((c.tc : Thread KernelIdeal.nD KernelIdeal.τ).loc KernelIdeal.main_arg0)
        = m ((c.tc : Thread KernelIdeal.nD KernelIdeal.τ).loc KernelIdeal.main_arg0)) :=
  (θ_run _ _ _).mono (fun _ h c => ⟨(h c).1.trans (congrArg (fun v => shapeCast KernelIdeal.S16384x32x32 v
    KernelIdeal.Gen.shapeCasts_S16384x1024_S16384x32x32) (Body.array_eq m c)), (h c).2⟩) (KernelIdeal.Value.run m g)

/-- The reference ends with its argument unchanged and no counter raised. -/
theorem reference_frame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r =>
      (∀ c : Dev ReferenceIdeal.nD, r.2.mem ((c.tc : Thread ReferenceIdeal.nD ReferenceIdeal.τ).loc ReferenceIdeal.main_arg0)
        = m ((c.tc : Thread ReferenceIdeal.nD ReferenceIdeal.τ).loc ReferenceIdeal.main_arg0))
      ∧ r.2.sem = fun _ => 0) :=
  (θ_run _ _ _).mono (fun r h => ⟨fun c => by
    obtain ⟨W, -, ha, hb⟩ := h c
    exact (hb _).trans ha, sem_eq_zero_of_no_sems (by decide) r.2⟩) (Ref.run_sat m g)

/-- On real logits the reference's result is the kernel's. -/
theorem reference_result (m : (ℓ : Loc KernelIdeal.nD KernelIdeal.τ KernelIdeal.sig) → Buf (Elt Ideal) ℓ) (c : Dev KernelIdeal.nD)
    (X : KernelIdeal.S16384x1024.Idx → ℝ)
    (hX : ∀ i, m ((c.tc : Thread KernelIdeal.nD KernelIdeal.τ).loc KernelIdeal.main_arg0) i = (X i : EReal))
    (W : Valuation ReferenceIdeal.τ ReferenceIdeal.sig (Elt Ideal)) (hW : Ref.Sat W Ref.ops)
    (ha : W (Proc.devRef .tc ReferenceIdeal.main_arg0) = m ((c.tc : Thread KernelIdeal.nD KernelIdeal.τ).loc KernelIdeal.main_arg0)) :
    W (Proc.devRef .tc ReferenceIdeal.main_v43) = result m c := by
  have h0 : Ssa.rd W Ref.r_v0 = shapeCast ReferenceIdeal.S16384x32x32 (Ssa.rd W Ref.r_arg0) _ :=
    Ssa.reshape_eq (hW _ (List.mem_append_left _ (List.mem_cons_self ..)))
  have hr : Ssa.rd W Ref.r_arg0 = m ((c.tc : Thread KernelIdeal.nD KernelIdeal.τ).loc KernelIdeal.main_arg0) := ha
  refine (show Ssa.rd W Ref.r_v43 = result m c from ?_)
  funext i
  obtain ⟨j, k, rfl⟩ : ∃ j k, Ref.member j k = i := ⟨_, _, Ref.member_group i⟩
  refine (Ref.result_eq hW (x := fun k => X (Result.flat j (Body.lane (Result.inRow j) k))) (fun k => ?_) k).trans ?_
  · rw [h0, hr]
    exact (Result.cast_apply _ _ j k).trans (hX _)
  · exact ((Result.cast_apply _ _ j k).trans (Result.whole_apply m c X hX j k)).symm

/-- From memories that agree on real logits, the two programs end with the same result. -/
theorem algebraic : haveI := Kernel.Gen.facts; haveI := KernelIdeal.Gen.facts; haveI := ReferenceIdeal.Gen.facts; haveI := Pre_finite.sides
    algebraic_KernelIdeal_ReferenceIdeal_pre_finite := by
  intro m g m' g' hpre hagree
  refine ⟨result m, kernel_run m g, (θ_run _ _ _).mono (fun r h c => ?_) (Ref.run_sat m' g')⟩
  obtain ⟨W, hW, ha, hb⟩ := h c
  choose X hX using fun i => Pre_finite.real_of_fn _ (hpre c) i
  exact ⟨(hb _).trans (reference_result m c X hX W hW (ha.trans (hagree c))), (hb _).trans ha⟩

/-- All the claims. -/
theorem claim : Cert.Claim := ⟨Cert.Kernel.Gen.facts, Cert.KernelIdeal.Gen.facts, Cert.ReferenceIdeal.Gen.facts, Cert.Pre_finite.sides,
  fun m g _ => Kernel.Gen.frame m g, fun m g _ => KernelIdeal.Gen.frame m g, fun m g _ => KernelIdeal.Gen.frame m g,
  fun m g _ => reference_frame m g, fun m g _ => reference_frame m g, trivial, algebraic⟩

end Cert.Proof

end
